-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2x1x50000x90 : Shape := ⟨5, ![1, 2, 1, 50000, 90]⟩
abbrev S50000x4 : Shape := ⟨2, ![50000, 4]⟩
abbrev S50000x8 : Shape := ⟨2, ![50000, 8]⟩
abbrev S10000x4 : Shape := ⟨2, ![10000, 4]⟩
abbrev S10000x8 : Shape := ⟨2, ![10000, 8]⟩
abbrev S160000x3 : Shape := ⟨2, ![160000, 3]⟩
abbrev S192x256 : Shape := ⟨2, ![192, 256]⟩
abbrev S256 : Shape := ⟨1, ![256]⟩
abbrev S12x256 : Shape := ⟨2, ![12, 256]⟩
abbrev S3x256 : Shape := ⟨2, ![3, 256]⟩
abbrev S256x256 : Shape := ⟨2, ![256, 256]⟩
abbrev S256x1024 : Shape := ⟨2, ![256, 1024]⟩
abbrev S1024x256 : Shape := ⟨2, ![1024, 256]⟩
abbrev S2x160000 : Shape := ⟨2, ![2, 160000]⟩
abbrev S1x2x90x1x50000 : Shape := ⟨5, ![1, 2, 90, 1, 50000]⟩
abbrev S4x50000 : Shape := ⟨2, ![4, 50000]⟩
abbrev S8x50000 : Shape := ⟨2, ![8, 50000]⟩
abbrev S1x256 : Shape := ⟨2, ![1, 256]⟩
abbrev S50000x256 : Shape := ⟨2, ![50000, 256]⟩
abbrev S1x2x90x1x10112 : Shape := ⟨5, ![1, 2, 90, 1, 10112]⟩
abbrev S4x10112 : Shape := ⟨2, ![4, 10112]⟩
abbrev S8x10112 : Shape := ⟨2, ![8, 10112]⟩
abbrev S10112x256 : Shape := ⟨2, ![10112, 256]⟩
abbrev S2x90x256 : Shape := ⟨3, ![2, 90, 256]⟩
abbrev S4x256 : Shape := ⟨2, ![4, 256]⟩
abbrev S8x256 : Shape := ⟨2, ![8, 256]⟩
abbrev S90x256 : Shape := ⟨2, ![90, 256]⟩
abbrev S1x90x256 : Shape := ⟨3, ![1, 90, 256]⟩
abbrev S1x1x90x1x10112 : Shape := ⟨5, ![1, 1, 90, 1, 10112]⟩
abbrev S90x10112 : Shape := ⟨2, ![90, 10112]⟩

abbrev nBuf : Space → Nat
  | .hbm => 27
  | .vmem => 13
  | .smem => 0
  | _ => 0

abbrev bufTy : (tb : Table) → Fin (tcTables nBuf tb) → BufTy
  | .hbm, ⟨0, _⟩ => ⟨S1x2x1x50000x90, .f32⟩
  | .hbm, ⟨1, _⟩ => ⟨S50000x4, .f32⟩
  | .hbm, ⟨2, _⟩ => ⟨S50000x8, .f32⟩
  | .hbm, ⟨3, _⟩ => ⟨S10000x4, .f32⟩
  | .hbm, ⟨4, _⟩ => ⟨S10000x8, .f32⟩
  | .hbm, ⟨5, _⟩ => ⟨S160000x3, .f32⟩
  | .hbm, ⟨6, _⟩ => ⟨S192x256, .f32⟩
  | .hbm, ⟨7, _⟩ => ⟨S256, .f32⟩
  | .hbm, ⟨8, _⟩ => ⟨S12x256, .f32⟩
  | .hbm, ⟨9, _⟩ => ⟨S256, .f32⟩
  | .hbm, ⟨10, _⟩ => ⟨S3x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x1024, .f32⟩
  | .hbm, ⟨16, _⟩ => ⟨S1024x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S2x160000, .i32⟩
  | .hbm, ⟨22, _⟩ => ⟨S1x2x90x1x50000, .f32⟩
  | .hbm, ⟨23, _⟩ => ⟨S4x50000, .f32⟩
  | .hbm, ⟨24, _⟩ => ⟨S8x50000, .f32⟩
  | .hbm, ⟨25, _⟩ => ⟨S1x256, .f32⟩
  | .hbm, ⟨26, _⟩ => ⟨S50000x256, .f32⟩
  | .local _ .vmem, ⟨0, _⟩ => ⟨S1x2x90x1x10112, .f32⟩
  | .local _ .vmem, ⟨1, _⟩ => ⟨S1x2x90x1x10112, .f32⟩
  | .local _ .vmem, ⟨2, _⟩ => ⟨S4x10112, .f32⟩
  | .local _ .vmem, ⟨3, _⟩ => ⟨S4x10112, .f32⟩
  | .local _ .vmem, ⟨4, _⟩ => ⟨S8x10112, .f32⟩
  | .local _ .vmem, ⟨5, _⟩ => ⟨S8x10112, .f32⟩
  | .local _ .vmem, ⟨6, _⟩ => ⟨S192x256, .f32⟩
  | .local _ .vmem, ⟨7, _⟩ => ⟨S1x256, .f32⟩
  | .local _ .vmem, ⟨8, _⟩ => ⟨S10112x256, .f32⟩
  | .local _ .vmem, ⟨9, _⟩ => ⟨S10112x256, .f32⟩
  | .local _ .vmem, ⟨10, _⟩ => ⟨S2x90x256, .f32⟩
  | .local _ .vmem, ⟨11, _⟩ => ⟨S4x256, .f32⟩
  | .local _ .vmem, ⟨12, _⟩ => ⟨S8x256, .f32⟩
  | _, _ => ⟨S1x2x1x50000x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x90x1x10112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x10112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x10112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10112x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x2x1x50000x90 : Shape := ⟨5, ![1, 2, 1, 50000, 90]⟩
abbrev S50000x4 : Shape := ⟨2, ![50000, 4]⟩
abbrev S50000x8 : Shape := ⟨2, ![50000, 8]⟩
abbrev S10000x4 : Shape := ⟨2, ![10000, 4]⟩
abbrev S10000x8 : Shape := ⟨2, ![10000, 8]⟩
abbrev S160000x3 : Shape := ⟨2, ![160000, 3]⟩
abbrev S192x256 : Shape := ⟨2, ![192, 256]⟩
abbrev S256 : Shape := ⟨1, ![256]⟩
abbrev S12x256 : Shape := ⟨2, ![12, 256]⟩
abbrev S3x256 : Shape := ⟨2, ![3, 256]⟩
abbrev S256x256 : Shape := ⟨2, ![256, 256]⟩
abbrev S256x1024 : Shape := ⟨2, ![256, 1024]⟩
abbrev S1024x256 : Shape := ⟨2, ![1024, 256]⟩
abbrev S2x160000 : Shape := ⟨2, ![2, 160000]⟩
abbrev S1x1x50000x2x90 : Shape := ⟨5, ![1, 1, 50000, 2, 90]⟩
abbrev S50000x180 : Shape := ⟨2, ![50000, 180]⟩
abbrev S50000x192 : Shape := ⟨2, ![50000, 192]⟩
abbrev S50000x256 : Shape := ⟨2, ![50000, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S1x2x1x50000x90, .f32⟩
  | .hbm, ⟨1, _⟩ => ⟨S50000x4, .f32⟩
  | .hbm, ⟨2, _⟩ => ⟨S50000x8, .f32⟩
  | .hbm, ⟨3, _⟩ => ⟨S10000x4, .f32⟩
  | .hbm, ⟨4, _⟩ => ⟨S10000x8, .f32⟩
  | .hbm, ⟨5, _⟩ => ⟨S160000x3, .f32⟩
  | .hbm, ⟨6, _⟩ => ⟨S192x256, .f32⟩
  | .hbm, ⟨7, _⟩ => ⟨S256, .f32⟩
  | .hbm, ⟨8, _⟩ => ⟨S12x256, .f32⟩
  | .hbm, ⟨9, _⟩ => ⟨S256, .f32⟩
  | .hbm, ⟨10, _⟩ => ⟨S3x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x1024, .f32⟩
  | .hbm, ⟨16, _⟩ => ⟨S1024x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S2x160000, .i32⟩
  | .hbm, ⟨22, _⟩ => ⟨S1x1x50000x2x90, .f32⟩
  | .hbm, ⟨23, _⟩ => ⟨S50000x180, .f32⟩
  | .hbm, ⟨24, _⟩ => ⟨S50000x192, .f32⟩
  | .hbm, ⟨25, _⟩ => ⟨S50000x256, .f32⟩
  | .hbm, ⟨26, _⟩ => ⟨S1x256, .f32⟩
  | .hbm, ⟨27, _⟩ => ⟨S50000x256, .f32⟩
  | .hbm, ⟨28, _⟩ => ⟨S50000x256, .f32⟩
  | _, _ => ⟨S1x2x1x50000x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩

abbrev nD : Nat := 1
abbrev τ : Topo := Topo.v7x

variable {F : FTy → Type} [FloatOps F]
-- ==== Proof.Kernel.Body.lean ====
/-
  One grid point of the kernel, at any number format: run on whole buffers it ends, whatever they hold. The five
  input blocks are left as they were; of the output block and of the three scratch buffers only the existence of
  contents is stated. That is all the frame of the kernel needs.
-/
module

public import proofs.«01_k».proof.Proof.Gen.Kernel
public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body asks whether it runs at the first grid point. -/
abbrev atStart (i : grid0.Coords) : Prop :=
  Scalar.cmpi .ne (Scalar.extui (Scalar.cmpi .eq (BitVec.ofNat 32 (i 0).val) 0#32)) 0#32 = 1#1

/-- A buffer held at some contents is held at what a view reads of them. -/
theorem holds_some (c : Dev nD) {sh : Shape} {e : EltTy} (a : Memref sig .tc .vmem sh e) (f : a.view.ty.Contents (Elt F)) :
    (a.view.loc (c : Thread nD τ) ↦[a.view.set]{fullShare} f : sProp 𝕄) ⊢ iprop(∃ X, owns (c : Thread nD τ) a fullShare X) := by
  iintro H
  iexists a.view.read (Elt F) f
  iapply (owns_intro (c : Thread nD τ) a fullShare f)
  iexact H

/-- The nine buffers of a point: the inputs' at named contents, the output's and the scratch ones at some contents. -/
def held (c : Dev nD)
    (a1 : Memref sig .tc .vmem S1x2x90x1x10112 .f32) (a2 : Memref sig .tc .vmem S4x10112 .f32) (a3 : Memref sig .tc .vmem S8x10112 .f32)
    (a4 : Memref sig .tc .vmem S192x256 .f32) (a5 : Memref sig .tc .vmem S1x256 .f32) (a6 : Memref sig .tc .vmem S10112x256 .f32)
    (a7 : Memref sig .tc .vmem S2x90x256 .f32) (a8 : Memref sig .tc .vmem S4x256 .f32) (a9 : Memref sig .tc .vmem S8x256 .f32)
    (X1 : S1x2x90x1x10112.Idx → Elt F .f32) (X2 : S4x10112.Idx → Elt F .f32) (X3 : S8x10112.Idx → Elt F .f32)
    (X4 : S192x256.Idx → Elt F .f32) (X5 : S1x256.Idx → Elt F .f32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5
    ∗ (∃ X, owns (c : Thread nD τ) a6 fullShare X)
    ∗ (∃ X, owns (c : Thread nD τ) a7 fullShare X) ∗ (∃ X, owns (c : Thread nD τ) a8 fullShare X)
    ∗ (∃ X, owns (c : Thread nD τ) a9 fullShare X))

set_option maxHeartbeats 2000000 in
/-- At any point and from any contents the body ends; the inputs' buffers hold what they held, and whatever
    else is held (`R`) is kept. -/
theorem body_ends (c : Dev nD) (E : Set ℕ) (i : grid0.Coords)
    (a1 : Memref sig .tc .vmem S1x2x90x1x10112 .f32) (h1 : a1.IsWhole) (a2 : Memref sig .tc .vmem S4x10112 .f32) (h2 : a2.IsWhole)
    (a3 : Memref sig .tc .vmem S8x10112 .f32) (h3 : a3.IsWhole) (a4 : Memref sig .tc .vmem S192x256 .f32) (h4 : a4.IsWhole)
    (a5 : Memref sig .tc .vmem S1x256 .f32) (h5 : a5.IsWhole) (a6 : Memref sig .tc .vmem S10112x256 .f32) (h6 : a6.IsWhole)
    (a7 : Memref sig .tc .vmem S2x90x256 .f32) (h7 : a7.IsWhole) (a8 : Memref sig .tc .vmem S4x256 .f32) (h8 : a8.IsWhole)
    (a9 : Memref sig .tc .vmem S8x256 .f32) (h9 : a9.IsWhole)
    (X1 : S1x2x90x1x10112.Idx → Elt F .f32) (X2 : S4x10112.Idx → Elt F .f32) (X3 : S8x10112.Idx → Elt F .f32)
    (X4 : S192x256.Idx → Elt F .f32) (X5 : S1x256.Idx → Elt F .f32)
    (R : sProp 𝕄) (K : PUnit → sProp 𝕄) (hK : iprop(held c a1 a2 a3 a4 a5 a6 a7 a8 a9 X1 X2 X3 X4 X5 ∗ R) ⊢ K ⟨⟩) :
    iprop(held c a1 a2 a3 a4 a5 a6 a7 a8 a9 X1 X2 X3 X4 X5 ∗ R)
      ⊢ wp frame (wpE (defs₀ (F := F)) Variants.none c none) E
          (cc0__embed_kernel i a1 h1 a2 h2 a3 h3 a4 h4 a5 h5 a6 h6 a7 h7 a8 h8 a9 h9) K := by
  rw [cc0__embed_kernel_eq_skeleton]; unfold cc0__embed_kernel_skel
  simp only [k0_part1_eq_skeleton]; unfold k0_part1_skel
  unfold held owns
  iintro ⟨⟨⟨%f1, %e1, H1⟩, ⟨%f2, %e2, H2⟩, ⟨%f3, %e3, H3⟩, ⟨%f4, %e4, H4⟩, ⟨%f5, %e5, H5⟩, ⟨%X6, %f6, -, H6⟩,
    ⟨%X7, %f7, -, H7⟩, ⟨%X8, %f8, -, H8⟩, ⟨%X9, %f9, -, H9⟩⟩, HR⟩
  subst e1 e2 e3 e4 e5
  by_cases hc : atStart i
  all_goals
    sl_exec (disch := exact hc)
    sl_step
    iapply hK
    isplitr [HR]
    on_goal 2 => iexact HR
    unfold held
    isplitl [H1]; · iapply (owns_intro (c : Thread nD τ) a1 fullShare f1); iexact H1
    isplitl [H2]; · iapply (owns_intro (c : Thread nD τ) a2 fullShare f2); iexact H2
    isplitl [H3]; · iapply (owns_intro (c : Thread nD τ) a3 fullShare f3); iexact H3
    isplitl [H4]; · iapply (owns_intro (c : Thread nD τ) a4 fullShare f4); iexact H4
    isplitl [H5]; · iapply (owns_intro (c : Thread nD τ) a5 fullShare f5); iexact H5
    isplitl [H6]; · iapply (holds_some c a6); iexact H6
    isplitl [H7]; · iapply (holds_some c a7); iexact H7
    isplitl [H8]; · iapply (holds_some c a8); iexact H8
    iapply (holds_some c a9); iexact H9

end Cert.Kernel.Hand

end
-- ==== Proof.Kernel.Run.lean ====
/-
  The frame of the kernel at any number format: every run of @main ends, the twenty-two arguments hold what they
  held, and every counter is zero. The output array is followed by nothing but its existence: at the last grid point
  the three clipped input buffers hold words past the arrays' end that nothing names.
-/
module

public import proofs.«01_k».proof.Proof.Kernel.Body
public import proofs.«01_k».proof.Proof.Gen.Kernel.Launch
public import proofs.«01_k».proof.Proof.Gen.Kernel.Points
public import Idealize.ShloMosaic.Lib.Pipeline.Frame
public import Idealize.ShloMosaic.Lib.Pipeline.FrameBody

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word that stands past an array's end where some word must be named. -/
abbrev pad : Elt F .f32 := Scalar.ofBits .f32 0#32

/-- What each buffer holds after a point: an input its block (the clipped ones filled out); the output is not followed. -/
def after (c : Dev nD) (w : Fin cfg0.W) (t : Fin cfg0.N) : (cfg0.win w).block.Idx → Elt F (cfg0.win w).elt :=
  match w with
  | ⟨0, _⟩ => win0_0.fill (grid0.coords t) (fun _ => pad) (iblk m c 0 t)
  | ⟨1, _⟩ => win0_1.fill (grid0.coords t) (fun _ => pad) (iblk m c 1 t)
  | ⟨2, _⟩ => win0_2.fill (grid0.coords t) (fun _ => pad) (iblk m c 2 t)
  | ⟨3, _⟩ => iblk m c 3 t
  | ⟨4, _⟩ => iblk m c 4 t
  | ⟨5, _⟩ => fun _ => pad

/-- The windows whose contents are not followed: the output's. -/
def lost (w : Fin cfg0.W) : Bool := match w with
  | ⟨0, _⟩ => false | ⟨1, _⟩ => false | ⟨2, _⟩ => false | ⟨3, _⟩ => false | ⟨4, _⟩ => false | ⟨5, _⟩ => true

/-- The data of the run: the arrays as the region finds them, `after`, and the scratch buffers at anything. -/
def dats (_ : Fin 1) (c : Dev nD) : Dat τ (Elt F) Unit ℕ (UR sig nD τ) ℕ cfg0 c where
  A w := V m c (Pipeline.arrRef spec0 w)
  after := after m c
  Φ _ := Pipeline.ΦA spec0 c
  q _ := fullShare
  owed _ := 0

abbrev 𝒱₀ : Variants := Variants.none

/-- The body the pipeline runs at a point is the kernel's on that point's buffers. -/
theorem body_row (t : Fin cfg0.N) : defs₀ (F := F) .tc cfg0.body (cfg0.bodyArgs t (cfg0.slots t)) = bodyAt0 t := by
  unfold defs₀; rw [Defs.onTc_tc]

theorem before_0 (c : Dev nD) (t : Fin cfg0.N) (d) :
    (dats m 0 c).before 0 t d = win0_0.fill (grid0.coords t) d (iblk m c 0 t) := by
  rw [(dats m 0 c).before_fetched 0 t (fetch0_0 t)]; rfl
theorem before_1 (c : Dev nD) (t : Fin cfg0.N) (d) :
    (dats m 0 c).before 1 t d = win0_1.fill (grid0.coords t) d (iblk m c 1 t) := by
  rw [(dats m 0 c).before_fetched 1 t (fetch0_1 t)]; rfl
theorem before_2 (c : Dev nD) (t : Fin cfg0.N) (d) :
    (dats m 0 c).before 2 t d = win0_2.fill (grid0.coords t) d (iblk m c 2 t) := by
  rw [(dats m 0 c).before_fetched 2 t (fetch0_2 t)]; rfl
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d

set_option maxHeartbeats 2000000 in
/-- A buffer held with contents `f` is, seen as a whole, owned with these contents. -/
theorem whole_owned (c : Dev nD) (b : Ref sig .tc) (f : Buf (Elt F) ((c.tc : Thread nD τ).loc b)) :
    ((((c.tc : Thread nD τ).loc b) ↦{fullShare} f : sProp 𝕄)) ⊢ owns c.tc (Memref.whole b) fullShare f := by
  rw [owns_whole]

/-- At every point the body leaves each followed buffer as `after` says and the scratch buffers at some contents. -/
theorem obligation (c : Dev nD) : BodyObligationLoose (dats m 0 c) (defs₀ (F := F)) 𝒱₀ () Set.univ lost := fun t => by
  rw [bigSep_W0, bigSep_W0, body_row]
  simp only [lost]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨S0, S1, S2⟩, Hp⟩, Ho, ⟨%d0, H0⟩, ⟨%d1, H1⟩, ⟨%d2, H2⟩, ⟨%d3, H3⟩, ⟨%d4, H4⟩, H5⟩
  rw [before_0, before_1, before_2, before_3, before_4]
  iapply (body_ends c Set.univ (grid0.coords t) _ _ _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t)
    iprop((∃ r, prngReg c r) ∗ (dats m 0 c).owesAt () t.castSucc))
  · unfold held
    simp only [owns_whole]
    iintro ⟨⟨H0, H1, H2, H3, H4, H5, ⟨%f0, S0⟩, ⟨%f1, S1⟩, ⟨%f2, S2⟩⟩, Hp, Ho⟩
    isplitl [S0 S1 S2 Hp]
    · isplitr [Hp]
      · isplitl [S0]; · iexists f0; iexact S0
        isplitl [S1]; · iexists f1; iexact S1
        iexists f2; iexact S2
      iexact Hp
    isplitl [Ho]; · iexact Ho
    isplitl [H0]
    · iexists d0
      change _ ⊢ owns _ _ fullShare (win0_0.fill (grid0.coords t) d0 (win0_0.cut (grid0.coords t) (win0_0.fill (grid0.coords t) (fun _ => pad) (iblk m c 0 t))))
      rw [win0_0.cut_fill]
    isplitl [H1]
    · iexists d1
      change _ ⊢ owns _ _ fullShare (win0_1.fill (grid0.coords t) d1 (win0_1.cut (grid0.coords t) (win0_1.fill (grid0.coords t) (fun _ => pad) (iblk m c 1 t))))
      rw [win0_1.cut_fill]
    isplitl [H2]
    · iexists d2
      change _ ⊢ owns _ _ fullShare (win0_2.fill (grid0.coords t) d2 (win0_2.cut (grid0.coords t) (win0_2.fill (grid0.coords t) (fun _ => pad) (iblk m c 2 t))))
      rw [win0_2.cut_fill]
    isplitl [H3]; · iexact H3
    isplitl [H4]; · iexact H4
    iexact H5
  unfold held
  icases S0 with ⟨%f0, S0⟩
  icases S1 with ⟨%f1, S1⟩
  icases S2 with ⟨%f2, S2⟩
  isplitr [Hp Ho]
  · isplitl [H0]; · iexact H0
    isplitl [H1]; · iexact H1
    isplitl [H2]; · iexact H2
    isplitl [H3]; · iexact H3
    isplitl [H4]; · iexact H4
    isplitl [H5]; · iexact H5
    isplitl [S0]; · iexists f0; iapply (whole_owned c cc0_scratch0 f0); iexact S0
    isplitl [S1]; · iexists f1; iapply (whole_owned c cc0_scratch1 f1); iexact S1
    iexists f2; iapply (whole_owned c cc0_scratch2 f2); iexact S2
  isplitl [Hp]; · iexact Hp
  iexact Ho

/-- Every run of @main ends; the arrays and the other buffers are as the pipeline's account of them says, and every
    counter is zero. -/
theorem run_main : θ_run defs (onTc (τ := τ) (main (F := F))) (s₀ m ρ) fun r =>
    Pipeline.RDat.FramePost cfg0 (fun c => (dats m 0 c).toRForget lost) (V m) r ∧ r.2.sem = fun _ => 0 :=
  Pipeline.θ_run_frame_track_forget cfgs (dats m) 0 launch0 defs₀ 𝒱₀ lost m ρ main
    (hbody := obligation m) (hshare := fun c => (dats m 0 c).share_full fun _ => rfl) (howed := fun _ _ => rfl)
    (V := V m) (hmain := hmain m 𝒱₀) (hA := fun _ _ => rfl)
    (hin := fun _ => .rfl) (hout := fun _ => .rfl)
    (Q' := fun r => Pipeline.RDat.FramePost cfg0 (fun c => (dats m 0 c).toRForget lost) (V m) r ∧ r.2.sem = fun _ => 0)
    (hQ' := fun _ h => h)

end Cert.Kernel.Hand

end
-- ==== Proof.Kernel.Quiet.lean ====
/-
  The kernel's frame claim: every run of @main ends with the twenty-two arguments as they were and all counters zero.
-/
module

public import proofs.«01_k».proof.Defs
public import proofs.«01_k».proof.Proof.Kernel.Run

@[expose] public section

noncomputable section

namespace Cert.Kernel.Hand

open Cert.Kernel Cert.Kernel.Gen
open Idealize.ShloMosaic Idealize.ShloMosaic.TcCoe
open Idealize.SL.Sem

variable {F : FTy → Type} [FloatOps F]

/-- A buffer that no window stages ends as the region found it. -/
theorem untouched (m : (ℓ : Loc nD τ sig) → Buf (Elt F) ℓ) {r : PUnit × MemSt nD τ sig (Elt F)}
    (h : Pipeline.RDat.FramePost cfg0 (fun c => (dats m 0 c).toRForget lost) (V m) r) (c : Dev nD)
    (b : Ref sig .tc) (hs : b.isScoped = false) (hb : ∀ w, (spec0 w).arr.view.ref ≠ b) :
    r.2.mem ((c.tc : Thread nD τ).loc b) = V m c b :=
  (h c).2 b (Pipeline.mem_restRefs_of b hs hb)

/-- Every run of the kernel ends with its arguments as they were and every counter at zero. -/
theorem quiescent : Cert.quiescent_Kernel := fun m ρ _ =>
  (θ_run defs _ _).mono (fun _ h => ⟨fun c => ⟨
    (untouched m h.1 c main_arg0 (by decide) (by decide)).trans (V_main_arg0 m c),
    (untouched m h.1 c main_arg1 (by decide) (by decide)).trans (V_main_arg1 m c),
    (untouched m h.1 c main_arg2 (by decide) (by decide)).trans (V_main_arg2 m c),
    (untouched m h.1 c main_arg3 (by decide) (by decide)).trans (V_main_arg3 m c),
    (untouched m h.1 c main_arg4 (by decide) (by decide)).trans (V_main_arg4 m c),
    (untouched m h.1 c main_arg5 (by decide) (by decide)).trans (V_main_arg5 m c),
    (h.1.arr_in c 3 rfl).trans (V_main_arg6 m c),
    (untouched m h.1 c main_arg7 (by decide) (by decide)).trans (V_main_arg7 m c),
    (untouched m h.1 c main_arg8 (by decide) (by decide)).trans (V_main_arg8 m c),
    (untouched m h.1 c main_arg9 (by decide) (by decide)).trans (V_main_arg9 m c),
    (untouched m h.1 c main_arg10 (by decide) (by decide)).trans (V_main_arg10 m c),
    (untouched m h.1 c main_arg11 (by decide) (by decide)).trans (V_main_arg11 m c),
    (untouched m h.1 c main_arg12 (by decide) (by decide)).trans (V_main_arg12 m c),
    (untouched m h.1 c main_arg13 (by decide) (by decide)).trans (V_main_arg13 m c),
    (untouched m h.1 c main_arg14 (by decide) (by decide)).trans (V_main_arg14 m c),
    (untouched m h.1 c main_arg15 (by decide) (by decide)).trans (V_main_arg15 m c),
    (untouched m h.1 c main_arg16 (by decide) (by decide)).trans (V_main_arg16 m c),
    (untouched m h.1 c main_arg17 (by decide) (by decide)).trans (V_main_arg17 m c),
    (untouched m h.1 c main_arg18 (by decide) (by decide)).trans (V_main_arg18 m c),
    (untouched m h.1 c main_arg19 (by decide) (by decide)).trans (V_main_arg19 m c),
    (untouched m h.1 c main_arg20 (by decide) (by decide)).trans (V_main_arg20 m c),
    (untouched m h.1 c main_arg21 (by decide) (by decide)).trans (V_main_arg21 m c)⟩, h.2⟩) (run_main m ρ)

end Cert.Kernel.Hand

end
-- ==== Proof.KernelIdeal.Scratch.lean ====
/-
  What the three scratch buffers hold once they are filled: the rows of `W` that each of the four products needs.
-/
module

public import proofs.«01_k».proof.Proof.Gen.KernelIdeal
public import proofs.«01_k».proof.Proof.Gen.KernelIdeal.Skeleton
public import Idealize.ShloMosaic.Lib.Pipeline.ValueKit.Tiles
public import Idealize.ShloMosaic.Lib.ValueLayout

@[expose] public section

noncomputable section

namespace Cert.KernelIdeal.Hand

open Cert.KernelIdeal Cert.KernelIdeal.Gen
open Idealize.ShloMosaic Idealize.ShloMosaic.ValueIdx

variable {F : FTy → Type} [FloatOps F]

theorem hz : (![0, 0] : Fin 2 → Nat) = fun _ => 0 := funext fun a => by fin_cases a <;> rfl

/-- The rows of `W` the first scratch buffer is filled with: rows 0 to 89 in plane 0, rows 90 to 179 in plane 1. -/
def laidX (W : S192x256.Idx → Elt F .f32) : S2x90x256.Idx → Elt F .f32 := fun i =>
  W (ix2 (⟨90 * (i 0).val + (i 1).val, by have h0 : (i 0).val < 2 := (i 0).isLt; have h1 : (i 1).val < 90 := (i 1).isLt; omega⟩ : Fin 192) (i 2 : Fin 256))

/-- The rows of `W` the second scratch buffer is filled with: rows 180 to 183. -/
def laidA (W : S192x256.Idx → Elt F .f32) : S4x256.Idx → Elt F .f32 := fun i =>
  W (ix2 (⟨180 + (i 0).val, by have h0 : (i 0).val < 4 := (i 0).isLt; omega⟩ : Fin 192) (i 1 : Fin 256))

/-- The rows of `W` the third scratch buffer is filled with: rows 184 to 191. -/
def laidT (W : S192x256.Idx → Elt F .f32) : S8x256.Idx → Elt F .f32 := fun i =>
  W (ix2 (⟨184 + (i 0).val, by have h0 : (i 0).val < 8 := (i 0).isLt; omega⟩ : Fin 192) (i 1 : Fin 256))

/-- The two stores into the first scratch buffer leave it holding these rows. -/
theorem canon_X (W : S192x256.Idx → Elt F .f32) :
    View.canon (Val := Elt F) (s := S2x90x256) (e := .f32)
      [⟨Rect.unit (s := S2x90x256) ![1, 0, 0] S1x90x256.size inb_S2x90x256_S1x90x256_1_0_0,
          k0_pay3 (View.ld W (Rect.unit (s := S192x256) ![90, 0] S90x256.size inb_S192x256_S90x256_90_0))⟩,
        ⟨Rect.unit (s := S2x90x256) ![0, 0, 0] S1x90x256.size inb_S2x90x256_S1x90x256_0_0_0,
          k0_pay2 (View.ld W (Rect.unit (s := S192x256) ![0, 0] S90x256.size inb_S192x256_S90x256_0_0))⟩] = laidX W := by
  funext y
  refine View.canon_eq_of_allAt _ y _ (View.cover_of_tiled_head _ _ _ rfl y)
    (View.allAt_cons_unit _ _ _ _ _ ?_ (View.allAt_cons_unit _ _ _ _ _ ?_ (View.allAt_nil _ _)))
  all_goals
    intro x hx
    have x0 : (x 0).val < 1 := (x 0).isLt
    have h0 : (y 0).val = _ := hx 0
    have h1 : (y 1).val = _ := hx 1
    have h2 : (y 2).val = _ := hx 2
    simp at h0 h1 h2
    rw [show x = ix3 (x 0) (x 1) (x 2) from eq_ix3 x]
  · unfold k0_pay3
    refine (shapeCast_ab_1ab_apply (a := 90) (b := 256) _ _ _ _ _).trans ?_
    refine View.ld_unit_apply_of (S := S192x256) W _ _ _ _ _ fun a => ?_
    match a with
    | ⟨0, _⟩ => show 90 * (y 0).val + (y 1).val = 90 + (x 1).val; omega
    | ⟨1, _⟩ => show (y 2).val = 0 + (x 2).val; omega
  · unfold k0_pay2
    refine (shapeCast_ab_1ab_apply (a := 90) (b := 256) _ _ _ _ _).trans ?_
    refine View.ld_unit_apply_of (S := S192x256) W _ _ _ _ _ fun a => ?_
    match a with
    | ⟨0, _⟩ => show 90 * (y 0).val + (y 1).val = 0 + (x 1).val; omega
    | ⟨1, _⟩ => show (y 2).val = 0 + (x 2).val; omega

/-- The store into the second scratch buffer leaves it holding rows 180 to 183. -/
theorem canon_A (W : S192x256.Idx → Elt F .f32) :
    View.canon (Val := Elt F) (s := S4x256) (e := .f32)
      [⟨Rect.unit (s := S4x256) ![0, 0] S4x256.size inb_S4x256_S4x256_0_0,
          k0_pay4 (View.ld W (Rect.unit (s := S192x256) ![180, 0] S4x256.size inb_S192x256_S4x256_180_0))⟩] = laidA W := by
  rw [View.canon_unit_zero (S := S4x256) hz]
  unfold k0_pay4
  dsimp only
  rw [shapeCast_self]
  funext y
  refine View.ld_unit_apply_of (S := S192x256) W _ _ _ _ _ fun a => ?_
  match a with
  | ⟨0, _⟩ => rfl
  | ⟨1, _⟩ => show (y 1).val = 0 + (y 1).val; omega

/-- The store into the third scratch buffer leaves it holding rows 184 to 191. -/
theorem canon_T (W : S192x256.Idx → Elt F .f32) :
    View.canon (Val := Elt F) (s := S8x256) (e := .f32)
      [⟨Rect.unit (s := S8x256) ![0, 0] S8x256.size inb_S8x256_S8x256_0_0,
          k0_pay5 (View.ld W (Rect.unit (s := S192x256) ![184, 0] S8x256.size inb_S192x256_S8x256_184_0))⟩] = laidT W := by
  rw [View.canon_unit_zero (S := S8x256) hz]
  unfold k0_pay5
  dsimp only
  rw [shapeCast_self]
  funext y
  refine View.ld_unit_apply_of (S := S192x256) W _ _ _ _ _ fun a => ?_
  match a with
  | ⟨0, _⟩ => rfl
  | ⟨1, _⟩ => show (y 1).val = 0 + (y 1).val; omega

end Cert.KernelIdeal.Hand

end
-- ==== Proof.KernelIdeal.Body.lean ====
/-
  One call of the kernel's body with every value it leaves named: away from the first grid point it keeps the three
  scratch buffers and overwrites the output block; at the first point it fills the scratch buffers from `W` before that.
-/
module

public import proofs.«01_k».proof.Proof.KernelIdeal.Scratch
public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body asks whether it runs at the first grid point. -/
abbrev atStart (i : grid0.Coords) : Prop :=
  Scalar.cmpi .ne (Scalar.extui (Scalar.cmpi .eq (BitVec.ofNat 32 (i 0).val) 0#32)) 0#32 = 1#1

/-- The nine buffers of a point: the inputs' and the scratch ones at named contents, the output's at `Y`. -/
def heldAt (c : Dev nD)
    (a1 : Memref sig .tc .vmem S1x2x90x1x10112 .f32) (a2 : Memref sig .tc .vmem S4x10112 .f32) (a3 : Memref sig .tc .vmem S8x10112 .f32)
    (a4 : Memref sig .tc .vmem S192x256 .f32) (a5 : Memref sig .tc .vmem S1x256 .f32) (a6 : Memref sig .tc .vmem S10112x256 .f32)
    (a7 : Memref sig .tc .vmem S2x90x256 .f32) (a8 : Memref sig .tc .vmem S4x256 .f32) (a9 : Memref sig .tc .vmem S8x256 .f32)
    (X1 : S1x2x90x1x10112.Idx → Elt F .f32) (X2 : S4x10112.Idx → Elt F .f32) (X3 : S8x10112.Idx → Elt F .f32)
    (X4 : S192x256.Idx → Elt F .f32) (X5 : S1x256.Idx → Elt F .f32) (Y : S10112x256.Idx → Elt F .f32)
    (Z7 : S2x90x256.Idx → Elt F .f32) (Z8 : S4x256.Idx → Elt F .f32) (Z9 : S8x256.Idx → Elt F .f32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5 ∗ owns (c : Thread nD τ) a6 fullShare Y
    ∗ owns (c : Thread nD τ) a7 fullShare Z7 ∗ owns (c : Thread nD τ) a8 fullShare Z8 ∗ owns (c : Thread nD τ) a9 fullShare Z9)

/-- What the body stores into the output block, from the input blocks and what it finds in the scratch buffers. -/
def stored (X1 : S1x2x90x1x10112.Idx → Elt F .f32) (X2 : S4x10112.Idx → Elt F .f32) (X3 : S8x10112.Idx → Elt F .f32)
    (X5 : S1x256.Idx → Elt F .f32)
    (Z7 : S2x90x256.Idx → Elt F .f32) (Z8 : S4x256.Idx → Elt F .f32) (Z9 : S8x256.Idx → Elt F .f32) : FVec F S10112x256 .f32 :=
  k0_pay1
    (k0_pay6
      (View.ld X1 (Rect.unit (s := S1x2x90x1x10112) ![0, 0, 0, 0, 0] S1x1x90x1x10112.size inb_S1x2x90x1x10112_S1x1x90x1x10112_0_0_0_0_0))
      (View.ld Z7 (Rect.unit (s := S2x90x256) ![0, 0, 0] S1x90x256.size inb_S2x90x256_S1x90x256_0_0_0))
      (View.ld X1 (Rect.unit (s := S1x2x90x1x10112) ![0, 1, 0, 0, 0] S1x1x90x1x10112.size inb_S1x2x90x1x10112_S1x1x90x1x10112_0_1_0_0_0))
      (View.ld Z7 (Rect.unit (s := S2x90x256) ![1, 0, 0] S1x90x256.size inb_S2x90x256_S1x90x256_1_0_0))
      X2 Z8 X3 Z9)
    (k0_pay7 X5)

/-- A buffer whose contents read as `X` is owned at `X`. -/
theorem owns_at (c : Dev nD) {sh : Shape} {e : EltTy} (a : Memref sig .tc .vmem sh e) (f : a.view.ty.Contents (Elt F))
    (X : sh.Idx → Elt F e) (h : a.view.read (Elt F) f = X) :
    (a.view.loc (c : Thread nD τ) ↦[a.view.set]{fullShare} f : sProp 𝕄) ⊢ owns (c : Thread nD τ) a fullShare X :=
  h ▸ owns_intro (c : Thread nD τ) a fullShare f

set_option maxHeartbeats 2000000 in
/-- Away from the first point: the scratch buffers are kept and the output block is what they and the inputs make it. -/
theorem body_later (c : Dev nD) (E : Set ℕ) (i : grid0.Coords) (hc : ¬ atStart i)
    (a1 : Memref sig .tc .vmem S1x2x90x1x10112 .f32) (h1 : a1.IsWhole) (a2 : Memref sig .tc .vmem S4x10112 .f32) (h2 : a2.IsWhole)
    (a3 : Memref sig .tc .vmem S8x10112 .f32) (h3 : a3.IsWhole) (a4 : Memref sig .tc .vmem S192x256 .f32) (h4 : a4.IsWhole)
    (a5 : Memref sig .tc .vmem S1x256 .f32) (h5 : a5.IsWhole) (a6 : Memref sig .tc .vmem S10112x256 .f32) (h6 : a6.IsWhole)
    (a7 : Memref sig .tc .vmem S2x90x256 .f32) (h7 : a7.IsWhole) (a8 : Memref sig .tc .vmem S4x256 .f32) (h8 : a8.IsWhole)
    (a9 : Memref sig .tc .vmem S8x256 .f32) (h9 : a9.IsWhole)
    (X1 : S1x2x90x1x10112.Idx → Elt F .f32) (X2 : S4x10112.Idx → Elt F .f32) (X3 : S8x10112.Idx → Elt F .f32)
    (X4 : S192x256.Idx → Elt F .f32) (X5 : S1x256.Idx → Elt F .f32) (Y : S10112x256.Idx → Elt F .f32)
    (Z7 : S2x90x256.Idx → Elt F .f32) (Z8 : S4x256.Idx → Elt F .f32) (Z9 : S8x256.Idx → Elt F .f32)
    (R : sProp 𝕄) (K : PUnit → sProp 𝕄)
    (hK : iprop(heldAt c a1 a2 a3 a4 a5 a6 a7 a8 a9 X1 X2 X3 X4 X5 (stored X1 X2 X3 X5 Z7 Z8 Z9) Z7 Z8 Z9 ∗ R) ⊢ K ⟨⟩) :
    iprop(heldAt c a1 a2 a3 a4 a5 a6 a7 a8 a9 X1 X2 X3 X4 X5 Y Z7 Z8 Z9 ∗ R)
      ⊢ wp frame (wpE (defs₀ (F := F)) Variants.none c none) E
          (cc0__embed_kernel i a1 h1 a2 h2 a3 h3 a4 h4 a5 h5 a6 h6 a7 h7 a8 h8 a9 h9) K := by
  rw [cc0__embed_kernel_eq_skeleton]; unfold cc0__embed_kernel_skel
  simp only [k0_part1_eq_skeleton]; unfold k0_part1_skel
  unfold heldAt owns
  iintro ⟨⟨⟨%f1, %e1, H1⟩, ⟨%f2, %e2, H2⟩, ⟨%f3, %e3, H3⟩, ⟨%f4, %e4, H4⟩, ⟨%f5, %e5, H5⟩, ⟨%f6, -, H6⟩,
    ⟨%f7, %e7, H7⟩, ⟨%f8, %e8, H8⟩, ⟨%f9, %e9, H9⟩⟩, HR⟩
  subst e1 e2 e3 e4 e5 e7 e8 e9
  sl_exec (disch := exact hc)
  sl_step
  iapply hK
  isplitr [HR]
  on_goal 2 => iexact HR
  unfold heldAt
  isplitl [H1]; · iapply (owns_at c a1 f1 _ rfl); iexact H1
  isplitl [H2]; · iapply (owns_at c a2 f2 _ rfl); iexact H2
  isplitl [H3]; · iapply (owns_at c a3 f3 _ rfl); iexact H3
  isplitl [H4]; · iapply (owns_at c a4 f4 _ rfl); iexact H4
  isplitl [H5]; · iapply (owns_at c a5 f5 _ rfl); iexact H5
  isplitl [H6]
  · iapply (owns_at c a6)
    on_goal 2 => iexact H6
    rw [View.read_writes_eq_canon _ _ _ (View.cover_of_tiled_head _ _ _ rfl), View.canon_unit_zero hz]
    unfold stored
    simp only [View.readAt_eq_ld, View.ld_unit_zero (S := S4x10112) hz, View.ld_unit_zero (S := S8x10112) hz,
      View.ld_unit_zero (S := S4x256) hz, View.ld_unit_zero (S := S8x256) hz, View.ld_unit_zero (S := S1x256) hz]
  isplitl [H7]; · iapply (owns_at c a7 f7 _ rfl); iexact H7
  isplitl [H8]; · iapply (owns_at c a8 f8 _ rfl); iexact H8
  iapply (owns_at c a9 f9 _ rfl); iexact H9

set_option maxHeartbeats 2000000 in
/-- At the first point: the scratch buffers are filled from `W` and the output block is what they and the inputs make it. -/
theorem body_start (c : Dev nD) (E : Set ℕ) (i : grid0.Coords) (hc : atStart i)
    (a1 : Memref sig .tc .vmem S1x2x90x1x10112 .f32) (h1 : a1.IsWhole) (a2 : Memref sig .tc .vmem S4x10112 .f32) (h2 : a2.IsWhole)
    (a3 : Memref sig .tc .vmem S8x10112 .f32) (h3 : a3.IsWhole) (a4 : Memref sig .tc .vmem S192x256 .f32) (h4 : a4.IsWhole)
    (a5 : Memref sig .tc .vmem S1x256 .f32) (h5 : a5.IsWhole) (a6 : Memref sig .tc .vmem S10112x256 .f32) (h6 : a6.IsWhole)
    (a7 : Memref sig .tc .vmem S2x90x256 .f32) (h7 : a7.IsWhole) (a8 : Memref sig .tc .vmem S4x256 .f32) (h8 : a8.IsWhole)
    (a9 : Memref sig .tc .vmem S8x256 .f32) (h9 : a9.IsWhole)
    (X1 : S1x2x90x1x10112.Idx → Elt F .f32) (X2 : S4x10112.Idx → Elt F .f32) (X3 : S8x10112.Idx → Elt F .f32)
    (X4 : S192x256.Idx → Elt F .f32) (X5 : S1x256.Idx → Elt F .f32) (Y : S10112x256.Idx → Elt F .f32)
    (Z7 : S2x90x256.Idx → Elt F .f32) (Z8 : S4x256.Idx → Elt F .f32) (Z9 : S8x256.Idx → Elt F .f32)
    (R : sProp 𝕄) (K : PUnit → sProp 𝕄)
    (hK : iprop(heldAt c a1 a2 a3 a4 a5 a6 a7 a8 a9 X1 X2 X3 X4 X5 (stored X1 X2 X3 X5 (laidX X4) (laidA X4) (laidT X4)) (laidX X4) (laidA X4) (laidT X4) ∗ R) ⊢ K ⟨⟩) :
    iprop(heldAt c a1 a2 a3 a4 a5 a6 a7 a8 a9 X1 X2 X3 X4 X5 Y Z7 Z8 Z9 ∗ R)
      ⊢ wp frame (wpE (defs₀ (F := F)) Variants.none c none) E
          (cc0__embed_kernel i a1 h1 a2 h2 a3 h3 a4 h4 a5 h5 a6 h6 a7 h7 a8 h8 a9 h9) K := by
  rw [cc0__embed_kernel_eq_skeleton]; unfold cc0__embed_kernel_skel
  simp only [k0_part1_eq_skeleton]; unfold k0_part1_skel
  unfold heldAt owns
  iintro ⟨⟨⟨%f1, %e1, H1⟩, ⟨%f2, %e2, H2⟩, ⟨%f3, %e3, H3⟩, ⟨%f4, %e4, H4⟩, ⟨%f5, %e5, H5⟩, ⟨%f6, -, H6⟩,
    ⟨%f7, -, H7⟩, ⟨%f8, -, H8⟩, ⟨%f9, -, H9⟩⟩, HR⟩
  subst e1 e2 e3 e4 e5
  sl_exec (disch := exact hc)
  sl_step
  iapply hK
  isplitr [HR]
  on_goal 2 => iexact HR
  unfold heldAt
  sl_unfold_words
  isplitl [H1]; · iapply (owns_at c a1 f1 _ rfl); iexact H1
  isplitl [H2]; · iapply (owns_at c a2 f2 _ rfl); iexact H2
  isplitl [H3]; · iapply (owns_at c a3 f3 _ rfl); iexact H3
  isplitl [H4]; · iapply (owns_at c a4 f4 _ rfl); iexact H4
  isplitl [H5]; · iapply (owns_at c a5 f5 _ rfl); iexact H5
  isplitl [H6]
  · iapply (owns_at c a6)
    on_goal 2 => iexact H6
    rw [View.read_writes_eq_canon _ _ _ (View.cover_of_tiled_head _ _ _ rfl), View.canon_unit_zero hz]
    unfold stored
    simp only [View.readCov_eq_canon', View.readAt_eq_ld, View.ld_unit_zero (S := S4x10112) hz, View.ld_unit_zero (S := S8x10112) hz,
      View.ld_unit_zero (S := S4x256) hz, View.ld_unit_zero (S := S8x256) hz, View.ld_unit_zero (S := S1x256) hz]
    rw [← View.ld_unit_zero (S := S4x256) hz inb_S4x256_S4x256_0_0 (laidA (a4.view.read (Elt F) f4)),
      ← View.ld_unit_zero (S := S8x256) hz inb_S8x256_S8x256_0_0 (laidT (a4.view.read (Elt F) f4)), ← canon_X, ← canon_A, ← canon_T]
  isplitl [H7]
  · iapply (owns_at c a7)
    on_goal 2 => iexact H7
    rw [View.read_writes_eq_canon _ _ _ (View.cover_of_tiled_head _ _ _ rfl)]
    exact canon_X _
  isplitl [H8]
  · iapply (owns_at c a8)
    on_goal 2 => iexact H8
    rw [View.read_writes_eq_canon _ _ _ (View.cover_of_tiled_head _ _ _ rfl)]
    exact canon_A _
  iapply (owns_at c a9)
  on_goal 2 => iexact H9
  rw [View.read_writes_eq_canon _ _ _ (View.cover_of_tiled_head _ _ _ rfl)]
  exact canon_T _

/-- At any point: if the scratch buffers hold their rows of `W` already, or the point is the first, they hold them after
    it, and the output block is what they and the inputs make it. -/
theorem body_point (c : Dev nD) (E : Set ℕ) (i : grid0.Coords)
    (a1 : Memref sig .tc .vmem S1x2x90x1x10112 .f32) (h1 : a1.IsWhole) (a2 : Memref sig .tc .vmem S4x10112 .f32) (h2 : a2.IsWhole)
    (a3 : Memref sig .tc .vmem S8x10112 .f32) (h3 : a3.IsWhole) (a4 : Memref sig .tc .vmem S192x256 .f32) (h4 : a4.IsWhole)
    (a5 : Memref sig .tc .vmem S1x256 .f32) (h5 : a5.IsWhole) (a6 : Memref sig .tc .vmem S10112x256 .f32) (h6 : a6.IsWhole)
    (a7 : Memref sig .tc .vmem S2x90x256 .f32) (h7 : a7.IsWhole) (a8 : Memref sig .tc .vmem S4x256 .f32) (h8 : a8.IsWhole)
    (a9 : Memref sig .tc .vmem S8x256 .f32) (h9 : a9.IsWhole)
    (X1 : S1x2x90x1x10112.Idx → Elt F .f32) (X2 : S4x10112.Idx → Elt F .f32) (X3 : S8x10112.Idx → Elt F .f32)
    (X4 : S192x256.Idx → Elt F .f32) (X5 : S1x256.Idx → Elt F .f32) (Y : S10112x256.Idx → Elt F .f32)
    (Z7 : S2x90x256.Idx → Elt F .f32) (Z8 : S4x256.Idx → Elt F .f32) (Z9 : S8x256.Idx → Elt F .f32)
    (hZ : ¬ atStart i → Z7 = laidX X4 ∧ Z8 = laidA X4 ∧ Z9 = laidT X4)
    (R : sProp 𝕄) (K : PUnit → sProp 𝕄)
    (hK : iprop(heldAt c a1 a2 a3 a4 a5 a6 a7 a8 a9 X1 X2 X3 X4 X5 (stored X1 X2 X3 X5 (laidX X4) (laidA X4) (laidT X4)) (laidX X4) (laidA X4) (laidT X4) ∗ R) ⊢ K ⟨⟩) :
    iprop(heldAt c a1 a2 a3 a4 a5 a6 a7 a8 a9 X1 X2 X3 X4 X5 Y Z7 Z8 Z9 ∗ R)
      ⊢ wp frame (wpE (defs₀ (F := F)) Variants.none c none) E
          (cc0__embed_kernel i a1 h1 a2 h2 a3 h3 a4 h4 a5 h5 a6 h6 a7 h7 a8 h8 a9 h9) K := by
  by_cases hc : atStart i
  · exact body_start c E i hc a1 h1 a2 h2 a3 h3 a4 h4 a5 h5 a6 h6 a7 h7 a8 h8 a9 h9 X1 X2 X3 X4 X5 Y Z7 Z8 Z9 R K hK
  · obtain ⟨e7, e8, e9⟩ := hZ hc
    subst e7 e8 e9
    exact body_later c E i hc a1 h1 a2 h2 a3 h3 a4 h4 a5 h5 a6 h6 a7 h7 a8 h8 a9 h9 X1 X2 X3 X4 X5 Y _ _ _ R K hK

end Cert.KernelIdeal.Hand

end
-- ==== Proof.KernelIdeal.Block.lean ====
/-
  What the body stores, over the reals: entry (r, j) of the output block is four sums of products and a bias entry. Row r
  reads column r of each input block and no other.
-/
module

public import proofs.«01_k».proof.Proof.KernelIdeal.Body
public import Idealize.ShloMosaic.Lib.Pointwise.Contract
public import Idealize.ShloMosaic.Lib.ValueIdx
public import Idealize.ShloMosaic.PureOps.Ideal.Laws

@[expose] public section

noncomputable section

namespace Cert.KernelIdeal.Hand

open Cert.KernelIdeal Cert.KernelIdeal.Gen
open Idealize.ShloMosaic hiding ix1 ix2 ix3 ix4 ix5
open Idealize.ShloMosaic.ValueIdx

/-- An index of a matrix is fixed by its two coordinates. -/
theorem two_axes {a b : Nat} (i : (⟨2, ![a, b]⟩ : Shape).Idx) (x : Fin a) (y : Fin b) (h0 : i 0 = x) (h1 : i 1 = y) : i = ix2 x y := by
  rw [← h0, ← h1]; exact ValueIdx.eq_ix2 i

/-- A product whose left operand is contracted along its rows, into zeros: entry (r, j) pairs column `r` with column `j`. -/
theorem product {K N M : Nat} (d : DotDims ⟨2, ![K, N]⟩ ⟨2, ![K, M]⟩ S10112x256) (A : FVec Ideal ⟨2, ![K, N]⟩ .f32) (B : FVec Ideal ⟨2, ![K, M]⟩ .f32)
    (i : S10112x256.Idx) (r : Fin N) (j : Fin M) (hc : d.lhsContracting = [0])
    (hL : ∀ k : Fin K, d.lhsIdx i (d.contrIdx₁ hc rfl k) = ix2 k r) (hR : ∀ k : Fin K, d.rhsIdx i (d.contrIdx₁ hc rfl k) = ix2 k j) :
    matmul (F := Ideal) d none A B (constant S10112x256 .f32 0x00000000#32) i = ∑ k : Fin K, A (ix2 k r) * B (ix2 k j) := by
  refine (Ideal.matmul_apply₁_of d hc rfl _ _ _ _ (fun k => ix2 k r) (fun k => ix2 k j) hL hR).trans ?_
  rw [show constant (F := Ideal) S10112x256 .f32 0x00000000#32 i = 0 from Ideal.ofBits_zero_f32, zero_add]
  rfl

/-- Time step `s`: the step's 90 features of node `r`, as one matrix. -/
theorem step_features (s : Fin 2) (off : Fin 5 → Nat) (hoff : off = ![0, s.val, 0, 0, 0]) (X1 : S1x2x90x1x10112.Idx → Elt Ideal .f32)
    (hx : ∀ a, off a + S1x1x90x1x10112.size a ≤ S1x2x90x1x10112.size a) (k : Fin 90) (r : Fin 10112) :
    shapeCast S90x10112 (View.ld X1 (Rect.unit (s := S1x2x90x1x10112) off S1x1x90x1x10112.size hx)) shapeCasts_S1x1x90x1x10112_S90x10112 (ix2 k r)
      = X1 (ix5 (0 : Fin 1) s k (0 : Fin 1) r) := by
  subst hoff
  rw [shapeCast_apply _ _ _ (ix5 (0 : Fin 1) (0 : Fin 1) k (0 : Fin 1) r) (by simp [Shape.rowMajor_val_two, Shape.rowMajor_val_five])]
  refine View.ld_unit_apply_of (S := S1x2x90x1x10112) X1 _ _ _ _ _ fun a => ?_
  match a with
  | ⟨0, _⟩ => rfl
  | ⟨1, _⟩ => rfl
  | ⟨2, _⟩ => show k.val = 0 + k.val; omega
  | ⟨3, _⟩ => rfl
  | ⟨4, _⟩ => show r.val = 0 + r.val; omega

/-- Time step `s`: its 90 rows of the first scratch buffer, as one matrix. -/
theorem step_weights (s : Fin 2) (off : Fin 3 → Nat) (hoff : off = ![s.val, 0, 0]) (Z7 : S2x90x256.Idx → Elt Ideal .f32)
    (hw : ∀ a, off a + S1x90x256.size a ≤ S2x90x256.size a) (k : Fin 90) (j : Fin 256) :
    shapeCast S90x256 (View.ld Z7 (Rect.unit (s := S2x90x256) off S1x90x256.size hw)) shapeCasts_S1x90x256_S90x256 (ix2 k j)
      = Z7 (ix3 s k j) := by
  subst hoff
  rw [shapeCast_1ab_ab_apply]
  refine View.ld_unit_apply_of (S := S2x90x256) Z7 _ _ _ _ _ fun a => ?_
  match a with
  | ⟨0, _⟩ => rfl
  | ⟨1, _⟩ => show k.val = 0 + k.val; omega
  | ⟨2, _⟩ => show j.val = 0 + j.val; omega

/-- Entry (r, j) of what the body stores: two steps' features, the attributes and the trainable features of node `r`
    against their rows of the scratch buffers, and the bias. -/
theorem stored_apply (X1 : S1x2x90x1x10112.Idx → Elt Ideal .f32) (X2 : S4x10112.Idx → Elt Ideal .f32) (X3 : S8x10112.Idx → Elt Ideal .f32)
    (X5 : S1x256.Idx → Elt Ideal .f32) (Z7 : S2x90x256.Idx → Elt Ideal .f32) (Z8 : S4x256.Idx → Elt Ideal .f32) (Z9 : S8x256.Idx → Elt Ideal .f32)
    (r : Fin 10112) (j : Fin 256) :
    stored X1 X2 X3 X5 Z7 Z8 Z9 (ix2 r j)
      = ((((∑ k : Fin 90, X1 (ix5 (0 : Fin 1) (0 : Fin 2) k (0 : Fin 1) r) * Z7 (ix3 (0 : Fin 2) k j))
          + ∑ k : Fin 90, X1 (ix5 (0 : Fin 1) (1 : Fin 2) k (0 : Fin 1) r) * Z7 (ix3 (1 : Fin 2) k j))
          + ∑ k : Fin 4, X2 (ix2 k r) * Z8 (ix2 k j))
          + ∑ k : Fin 8, X3 (ix2 k r) * Z9 (ix2 k j)) + X5 (ix2 (0 : Fin 1) j) := by
  unfold stored k0_pay1 k0_pay6 k0_pay7
  dsimp only
  rw [shapeCast_self, shapeCast_self, shapeCast_self, addf_apply, addf_apply, addf_apply, addf_apply, broadcastTo_1b_ab_apply]
  rw [product dot_S90x10112_S90x256_S10112x256_0_0_1_1_n_n _ _ _ r j rfl (fun _ => two_axes _ _ _ rfl rfl) (fun _ => two_axes _ _ _ rfl rfl),
    product dot_S90x10112_S90x256_S10112x256_0_0_1_1_n_n _ _ _ r j rfl (fun _ => two_axes _ _ _ rfl rfl) (fun _ => two_axes _ _ _ rfl rfl),
    product dot_S4x10112_S4x256_S10112x256_0_0_1_1_n_n _ _ _ r j rfl (fun _ => two_axes _ _ _ rfl rfl) (fun _ => two_axes _ _ _ rfl rfl),
    product dot_S8x10112_S8x256_S10112x256_0_0_1_1_n_n _ _ _ r j rfl (fun _ => two_axes _ _ _ rfl rfl) (fun _ => two_axes _ _ _ rfl rfl)]
  simp only [step_features 0 ![0, 0, 0, 0, 0] rfl, step_features 1 ![0, 1, 0, 0, 0] rfl, step_weights 0 ![0, 0, 0] rfl, step_weights 1 ![1, 0, 0] rfl]

end Cert.KernelIdeal.Hand

end
-- ==== Proof.KernelIdeal.Array.lean ====
/-
  The array the kernel computes, over the reals, and that a block the body stores holds that array's rows: at grid point
  t, row r of the block is row 10112 t + r of the array wherever that row exists.
-/
module

public import proofs.«01_k».proof.Proof.KernelIdeal.Block

@[expose] public section

noncomputable section

namespace Cert.KernelIdeal.Hand

open Cert.KernelIdeal Cert.KernelIdeal.Gen
open Idealize.ShloMosaic hiding ix1 ix2 ix3 ix4 ix5
open Idealize.ShloMosaic.ValueIdx Idealize.ShloMosaic.TcCoe

/-- The embedding, entry by entry: node `g`'s features of the two time steps, its attributes and its trainable features
    against column `j` of `W`, each group with its own rows, and the bias. The node features arrive with the nodes last. -/
def embedding (x : S1x2x90x1x50000.Idx → Elt Ideal .f32) (a : S4x50000.Idx → Elt Ideal .f32) (t : S8x50000.Idx → Elt Ideal .f32)
    (W : S192x256.Idx → Elt Ideal .f32) (b : S1x256.Idx → Elt Ideal .f32) (g : Fin 50000) (j : Fin 256) : Elt Ideal .f32 :=
  ((((∑ k : Fin 90, x (ix5 (0 : Fin 1) (0 : Fin 2) k (0 : Fin 1) g) * W (ix2 (⟨k.val, by omega⟩ : Fin 192) j))
    + ∑ k : Fin 90, x (ix5 (0 : Fin 1) (1 : Fin 2) k (0 : Fin 1) g) * W (ix2 (⟨90 + k.val, by omega⟩ : Fin 192) j))
    + ∑ k : Fin 4, a (ix2 k g) * W (ix2 (⟨180 + k.val, by omega⟩ : Fin 192) j))
    + ∑ k : Fin 8, t (ix2 k g) * W (ix2 (⟨184 + k.val, by omega⟩ : Fin 192) j)) + b (ix2 (0 : Fin 1) j)

/-- A block of which row `r` (of the inputs: column `r`) is node `g`'s holds node `g`'s embedding there. -/
theorem stored_row (X1 : S1x2x90x1x10112.Idx → Elt Ideal .f32) (X2 : S4x10112.Idx → Elt Ideal .f32) (X3 : S8x10112.Idx → Elt Ideal .f32)
    (x : S1x2x90x1x50000.Idx → Elt Ideal .f32) (a : S4x50000.Idx → Elt Ideal .f32) (t : S8x50000.Idx → Elt Ideal .f32)
    (W : S192x256.Idx → Elt Ideal .f32) (b : S1x256.Idx → Elt Ideal .f32) (r : Fin 10112) (g : Fin 50000) (j : Fin 256)
    (h1 : ∀ (s : Fin 2) (k : Fin 90), X1 (ix5 (0 : Fin 1) s k (0 : Fin 1) r) = x (ix5 (0 : Fin 1) s k (0 : Fin 1) g))
    (h2 : ∀ k : Fin 4, X2 (ix2 k r) = a (ix2 k g)) (h3 : ∀ k : Fin 8, X3 (ix2 k r) = t (ix2 k g)) :
    stored X1 X2 X3 b (laidX W) (laidA W) (laidT W) (ix2 r j) = embedding x a t W b g j := by
  rw [stored_apply]
  simp only [h1, h2, h3]
  unfold embedding
  have e0 : ∀ k : Fin 90, laidX W (ix3 (0 : Fin 2) k j) = W (ix2 (⟨k.val, by omega⟩ : Fin 192) j) := fun k =>
    congrArg W (two_axes _ _ _ (Fin.ext (show 90 * 0 + k.val = k.val by omega)) rfl)
  have e1 : ∀ k : Fin 90, laidX W (ix3 (1 : Fin 2) k j) = W (ix2 (⟨90 + k.val, by omega⟩ : Fin 192) j) := fun k =>
    congrArg W (two_axes _ _ _ (Fin.ext (show 90 * 1 + k.val = 90 + k.val by omega)) rfl)
  simp only [e0, e1]
  rfl

/-- An entry of a filled-out block that lies inside the array is the array's entry there. -/
theorem fill_block {α : Type} (w : Pipeline.Window sig grid0) (t : Fin grid0.N) (d : w.block.Idx → α) (X : w.shape.Idx → α)
    (j : w.block.Idx) (i : w.shape.Idx) (hj : ∀ a, (j a).val < w.xsize (grid0.coords t) a)
    (hi : ∀ a, (i a).val = w.kind.off (w.index t a) (w.size a) + (j a).val) :
    w.fill (grid0.coords t) d (fun y => X ((w.rect t).emb y)) j = X i := by
  unfold Pipeline.Window.fill
  rw [dif_pos ((w.moved_iff _ _).mpr hj)]
  refine congrArg X (funext fun a => Fin.ext ?_)
  rw [Rect.emb_apply, hi a]
  show _ + 1 * (j a).val = _
  rw [Nat.one_mul]
  rfl

/-- How many rows of the block at point `t` exist. -/
abbrev rows (t : Fin grid0.N) : Nat := min 10112 (50000 - 10112 * t.val)

theorem off_0 : ∀ (t : Fin grid0.N) a, win0_0.kind.off (win0_0.index t a) (win0_0.size a) = ![0, 0, 0, 0, 10112 * t.val] a := by decide +kernel
theorem off_1 : ∀ (t : Fin grid0.N) a, win0_1.kind.off (win0_1.index t a) (win0_1.size a) = ![0, 10112 * t.val] a := by decide +kernel
theorem off_2 : ∀ (t : Fin grid0.N) a, win0_2.kind.off (win0_2.index t a) (win0_2.size a) = ![0, 10112 * t.val] a := by decide +kernel
theorem off_5 : ∀ (t : Fin grid0.N) a, win0_5.kind.off (win0_5.index t a) (win0_5.size a) = ![10112 * t.val, 0] a := by decide +kernel
theorem ext_0 : ∀ (t : Fin grid0.N) a, win0_0.xsize (grid0.coords t) a = ![1, 2, 90, 1, rows t] a := by decide +kernel
theorem ext_1 : ∀ (t : Fin grid0.N) a, win0_1.xsize (grid0.coords t) a = ![4, rows t] a := by decide +kernel
theorem ext_2 : ∀ (t : Fin grid0.N) a, win0_2.xsize (grid0.coords t) a = ![8, rows t] a := by decide +kernel
theorem ext_5 : ∀ (t : Fin grid0.N) a, win0_5.xsize (grid0.coords t) a = ![rows t, 256] a := by decide +kernel

variable (m : (ℓ : Loc nD τ sig) → Buf (Elt Ideal) ℓ)

/-- The array the kernel leaves: every node's embedding, from the arrays as the region finds them. -/
def result (c : Dev nD) : S50000x256.Idx → Elt Ideal .f32 := fun i =>
  embedding (V m c main_v0) (V m c main_v1) (V m c main_v2) (V m c main_arg6) (V m c main_v3) (i 0) (i 1)

/-- The block of `W` is `W`, at every point. -/
theorem block_3 (c : Dev nD) (t : Fin cfg0.N) : iblk m c 3 t = V m c main_arg6 := by
  have h : ∀ (t : Fin grid0.N) a, win0_3.kind.off (win0_3.index t a) (win0_3.size a) = 0 := by decide +kernel
  funext y
  show V m c main_arg6 ((win0_3.rect t).emb y) = V m c main_arg6 y
  refine congrArg _ (funext fun a => Fin.ext ?_)
  rw [Rect.emb_apply]
  show win0_3.kind.off (win0_3.index t a) (win0_3.size a) + 1 * (y a).val = (y a).val
  rw [h, Nat.one_mul, Nat.zero_add]

/-- The block of the bias is the bias, at every point. -/
theorem block_4 (c : Dev nD) (t : Fin cfg0.N) : iblk m c 4 t = V m c main_v3 := by
  have h : ∀ (t : Fin grid0.N) a, win0_4.kind.off (win0_4.index t a) (win0_4.size a) = 0 := by decide +kernel
  funext y
  show V m c main_v3 ((win0_4.rect t).emb y) = V m c main_v3 y
  refine congrArg _ (funext fun a => Fin.ext ?_)
  rw [Rect.emb_apply]
  show win0_4.kind.off (win0_4.index t a) (win0_4.size a) + 1 * (y a).val = (y a).val
  rw [h, Nat.one_mul, Nat.zero_add]

/-- What the body stores at point `t` is, on the rows that exist, the array's rows from 10112 t on — whatever the words
    of the input buffers past the arrays' end. -/
theorem stored_block (c : Dev nD) (t : Fin cfg0.N) (d0 : win0_0.block.Idx → Elt Ideal .f32) (d1 : win0_1.block.Idx → Elt Ideal .f32) (d2 : win0_2.block.Idx → Elt Ideal .f32) :
    win0_5.cut (grid0.coords t)
        (stored (win0_0.fill (grid0.coords t) d0 (iblk m c 0 t)) (win0_1.fill (grid0.coords t) d1 (iblk m c 1 t))
          (win0_2.fill (grid0.coords t) d2 (iblk m c 2 t)) (V m c main_v3)
          (laidX (V m c main_arg6)) (laidA (V m c main_arg6)) (laidT (V m c main_arg6)))
      = fun y => result m c ((win0_5.rect t).emb y) := by
  funext y
  have hr : (y 0).val < rows t := lt_of_lt_of_eq (y 0).isLt (ext_5 t 0)
  have hj : (y 1).val < 256 := lt_of_lt_of_eq (y 1).isLt (ext_5 t 1)
  have hr' : (y 0).val < 10112 := lt_of_lt_of_le hr (min_le_left _ _)
  have hg : 10112 * t.val + (y 0).val < 50000 := by have := lt_of_lt_of_le hr (min_le_right _ _); omega
  unfold Pipeline.Window.cut
  rw [show win0_5.xinj (grid0.coords t) y = ix2 (⟨(y 0).val, hr'⟩ : Fin 10112) (⟨(y 1).val, hj⟩ : Fin 256) from two_axes _ _ _ rfl rfl,
    show (win0_5.rect t).emb y = ix2 (⟨10112 * t.val + (y 0).val, hg⟩ : Fin 50000) (⟨(y 1).val, hj⟩ : Fin 256) from
      two_axes _ _ _ (Fin.ext ?_) (Fin.ext ?_)]
  · refine stored_row _ _ _ _ _ _ _ _ _ _ _ (fun s k => ?_) (fun k => ?_) (fun k => ?_)
    · refine fill_block win0_0 t d0 (V m c main_v0) _ _ (fun a => ?_) fun a => ?_
      · rw [ext_0]; match a with
        | ⟨0, _⟩ => exact Nat.one_pos | ⟨1, _⟩ => exact s.isLt | ⟨2, _⟩ => exact k.isLt | ⟨3, _⟩ => exact Nat.one_pos | ⟨4, _⟩ => exact hr
      · rw [off_0]; match a with
        | ⟨0, _⟩ => rfl | ⟨1, _⟩ => exact (Nat.zero_add _).symm | ⟨2, _⟩ => exact (Nat.zero_add _).symm | ⟨3, _⟩ => rfl | ⟨4, _⟩ => rfl
    · refine fill_block win0_1 t d1 (V m c main_v1) _ _ (fun a => ?_) fun a => ?_
      · rw [ext_1]; match a with | ⟨0, _⟩ => exact k.isLt | ⟨1, _⟩ => exact hr
      · rw [off_1]; match a with | ⟨0, _⟩ => exact (Nat.zero_add _).symm | ⟨1, _⟩ => rfl
    · refine fill_block win0_2 t d2 (V m c main_v2) _ _ (fun a => ?_) fun a => ?_
      · rw [ext_2]; match a with | ⟨0, _⟩ => exact k.isLt | ⟨1, _⟩ => exact hr
      · rw [off_2]; match a with | ⟨0, _⟩ => exact (Nat.zero_add _).symm | ⟨1, _⟩ => rfl
  · show win0_5.kind.off (win0_5.index t 0) (win0_5.size 0) + 1 * (y 0).val = _
    rw [off_5]; exact congrArg _ (Nat.one_mul _)
  · show win0_5.kind.off (win0_5.index t 1) (win0_5.size 1) + 1 * (y 1).val = _
    rw [off_5]; exact (Nat.zero_add _).trans (Nat.one_mul _)

end Cert.KernelIdeal.Hand

end
-- ==== Proof.KernelIdeal.Run.lean ====
/-
  The run of the kernel over the reals: every run of @main ends, the arrays are as the pipeline's account of them says
  with each block of the output the array's own, and every counter is zero. From the second grid point on the scratch
  buffers hold the rows of `W` that the first point left in them.
-/
module

public import proofs.«01_k».proof.Proof.KernelIdeal.Array
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The word that stands past an array's end where some word must be named. -/
abbrev pad : Elt Ideal .f32 := (0 : EReal)

/-- What each buffer holds after a point: an input its block, the output the array's rows (the clipped ones filled out). -/
def after (c : Dev nD) (w : Fin cfg0.W) (t : Fin cfg0.N) : (cfg0.win w).block.Idx → Elt Ideal (cfg0.win w).elt :=
  match w with
  | ⟨0, _⟩ => win0_0.fill (grid0.coords t) (fun _ => pad) (iblk m c 0 t)
  | ⟨1, _⟩ => win0_1.fill (grid0.coords t) (fun _ => pad) (iblk m c 1 t)
  | ⟨2, _⟩ => win0_2.fill (grid0.coords t) (fun _ => pad) (iblk m c 2 t)
  | ⟨3, _⟩ => V m c main_arg6
  | ⟨4, _⟩ => V m c main_v3
  | ⟨5, _⟩ => win0_5.fill (grid0.coords t) (fun _ => pad) fun y => result m c ((win0_5.rect t).emb y)

/-- What stands beside the windows' buffers before point `n`: the scratch buffers, which from the second point on hold
    their rows of `W`, and the random numbers' register at anything. -/
def between (c : Dev nD) (n : ℕ) : sProp 𝕄 :=
  iprop((∃ Z7, ∃ Z8, ∃ Z9, ⌜n ≠ 0 → Z7 = laidX (V m c main_arg6) ∧ Z8 = laidA (V m c main_arg6) ∧ Z9 = laidT (V m c main_arg6)⌝
      ∗ owns (c : Thread nD τ) (Memref.whole cc0_scratch0) fullShare Z7 ∗ owns (c : Thread nD τ) (Memref.whole cc0_scratch1) fullShare Z8
      ∗ owns (c : Thread nD τ) (Memref.whole cc0_scratch2) fullShare Z9)
    ∗ ∃ r, prngReg c r)

/-- The data of the run: the arrays as the region finds them, `after`, and the scratch buffers as `between` says. -/
def dats (_ : Fin 1) (c : Dev nD) : Dat τ (Elt Ideal) Unit ℕ (UR sig nD τ) ℕ cfg0 c where
  A w := V m c (Pipeline.arrRef spec0 w)
  after := after m c
  Φ n := between m c n.val
  q _ := fullShare
  owed _ := 0

abbrev 𝒱₀ : Variants := Variants.none

/-- The body the pipeline runs at a point is the kernel's on that point's buffers. -/
theorem body_row (t : Fin cfg0.N) : defs₀ (F := Ideal) .tc cfg0.body (cfg0.bodyArgs t (cfg0.slots t)) = bodyAt0 t := by
  unfold defs₀; rw [Defs.onTc_tc]

theorem before_0 (c : Dev nD) (t : Fin cfg0.N) (d) :
    (dats m 0 c).before 0 t d = win0_0.fill (grid0.coords t) d (iblk m c 0 t) := by
  rw [(dats m 0 c).before_fetched 0 t (fetch0_0 t)]; rfl
theorem before_1 (c : Dev nD) (t : Fin cfg0.N) (d) :
    (dats m 0 c).before 1 t d = win0_1.fill (grid0.coords t) d (iblk m c 1 t) := by
  rw [(dats m 0 c).before_fetched 1 t (fetch0_1 t)]; rfl
theorem before_2 (c : Dev nD) (t : Fin cfg0.N) (d) :
    (dats m 0 c).before 2 t d = win0_2.fill (grid0.coords t) d (iblk m c 2 t) := by
  rw [(dats m 0 c).before_fetched 2 t (fetch0_2 t)]; rfl
theorem before_3 (c : Dev nD) (t : Fin cfg0.N) (d) : (dats m 0 c).before 3 t d = V m c main_arg6 :=
  (before0_3_of m (dats m 0 c) rfl (fun t => (block_3 m c t).symm) t d).trans (block_3 m c t)
theorem before_4 (c : Dev nD) (t : Fin cfg0.N) (d) : (dats m 0 c).before 4 t d = V m c main_v3 :=
  (before0_4_of m (dats m 0 c) rfl (fun t => (block_4 m c t).symm) t d).trans (block_4 m c t)

/-- A buffer held with contents `f` is, seen as a whole, owned with these contents; and the other way round. -/
theorem whole_owned (c : Dev nD) (b : Ref sig .tc) (f : Buf (Elt Ideal) ((c.tc : Thread nD τ).loc b)) :
    ((((c.tc : Thread nD τ).loc b) ↦{fullShare} f : sProp 𝕄)) ⊢ owns c.tc (Memref.whole b) fullShare f := by
  rw [owns_whole]
theorem owned_whole (c : Dev nD) (b : Ref sig .tc) (f : Buf (Elt Ideal) ((c.tc : Thread nD τ).loc b)) :
    owns c.tc (Memref.whole b) fullShare f ⊢ ((((c.tc : Thread nD τ).loc b) ↦{fullShare} f : sProp 𝕄)) := by
  rw [owns_whole]

/-- Ownership follows an equality of contents. -/
theorem same_owned (c : Dev nD) {sh : Shape} {e : EltTy} (a : Memref sig .tc .vmem sh e) {X Y : sh.Idx → Elt Ideal e} (h : X = Y) :
    (owns (c : Thread nD τ) a fullShare X : sProp 𝕄) ⊢ owns (c : Thread nD τ) a fullShare Y := by
  rw [h]

/-- The body asks for the first point exactly at the first point. -/
theorem atStart_iff (t : Fin cfg0.N) : atStart (grid0.coords t) ↔ t.val = 0 := by
  revert t; decide +kernel

/-- At every point the body leaves each buffer as `after` says, on the part inside the array, and the scratch buffers filled. -/
theorem obligation (c : Dev nD) : BodyObligationLoose (dats m 0 c) (defs₀ (F := Ideal)) 𝒱₀ () Set.univ := fun t => by
  rw [bigSep_W0, bigSep_W0, body_row]
  rw [show (dats m 0 c).Φ t.succ = between m c (t.val + 1) from rfl, show (dats m 0 c).Φ t.castSucc = between m c t.val from rfl,
    show (dats m 0 c).owesAt () t.succ = (dats m 0 c).owesAt () t.castSucc from rfl]
  unfold between
  iintro ⟨⟨⟨%Z7, %Z8, %Z9, %hZ, S0, S1, S2⟩, Hp⟩, Ho, ⟨%d0, H0⟩, ⟨%d1, H1⟩, ⟨%d2, H2⟩, ⟨%d3, H3⟩, ⟨%d4, H4⟩, ⟨%d5, H5⟩⟩
  rw [before_0, before_1, before_2, before_3, before_4]
  iapply (body_point c Set.univ (grid0.coords t) _ _ _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (V m c main_arg6) (V m c main_v3) ((dats m 0 c).before 5 t d5) Z7 Z8 Z9
    (fun hc => hZ fun h => hc ((atStart_iff t).mpr h))
    iprop((∃ r, prngReg c r) ∗ (dats m 0 c).owesAt () t.castSucc))
  · unfold heldAt
    iintro ⟨⟨H0, H1, H2, H3, H4, H5, S0, S1, S2⟩, Hp, Ho⟩
    isplitl [S0 S1 S2 Hp]
    · isplitr [Hp]
      · iexists _; iexists _; iexists _
        isplitr [S0 S1 S2]
        · ipureintro; exact fun _ => ⟨rfl, rfl, rfl⟩
        isplitl [S0]; · iexact S0
        isplitl [S1]; · iexact S1
        iexact S2
      iexact Hp
    isplitl [Ho]; · iexact Ho
    isplitl [H0]
    · iexists d0
      change _ ⊢ owns _ _ fullShare (win0_0.fill (grid0.coords t) d0 (win0_0.cut (grid0.coords t) (win0_0.fill (grid0.coords t) (fun _ => pad) (iblk m c 0 t))))
      rw [win0_0.cut_fill]
    isplitl [H1]
    · iexists d1
      change _ ⊢ owns _ _ fullShare (win0_1.fill (grid0.coords t) d1 (win0_1.cut (grid0.coords t) (win0_1.fill (grid0.coords t) (fun _ => pad) (iblk m c 1 t))))
      rw [win0_1.cut_fill]
    isplitl [H2]
    · iexists d2
      change _ ⊢ owns _ _ fullShare (win0_2.fill (grid0.coords t) d2 (win0_2.cut (grid0.coords t) (win0_2.fill (grid0.coords t) (fun _ => pad) (iblk m c 2 t))))
      rw [win0_2.cut_fill]
    isplitl [H3]; · iexact H3
    isplitl [H4]; · iexact H4
    iexists (stored (win0_0.fill (grid0.coords t) d0 (iblk m c 0 t)) (win0_1.fill (grid0.coords t) d1 (iblk m c 1 t))
          (win0_2.fill (grid0.coords t) d2 (iblk m c 2 t)) (V m c main_v3)
          (laidX (V m c main_arg6)) (laidA (V m c main_arg6)) (laidT (V m c main_arg6)))
    refine same_owned c _ ?_
    exact (win0_5.fill_congr_cut (grid0.coords t) ((stored_block m c t d0 d1 d2).trans (win0_5.cut_fill (grid0.coords t) (fun _ => pad) _).symm)).symm
  unfold heldAt
  isplitr [Hp Ho]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iexact S2
  isplitl [Hp]; · iexact Hp
  iexact Ho

/-- What the region finds is what stands beside the buffers before the first point. -/
theorem enters (c : Dev nD) : Pipeline.ΦA spec0 c ⊢ between m c 0 := by
  unfold Pipeline.ΦA between
  rw [scopedRest0_eq]
  iintro ⟨⟨⟨%f0, S0⟩, ⟨%f1, S1⟩, ⟨%f2, S2⟩⟩, Hp⟩
  isplitr [Hp]
  · iexists f0; iexists f1; iexists f2
    isplitr [S0 S1 S2]
    · ipureintro; exact fun h => absurd rfl h
    isplitl [S0]; · iapply (whole_owned c cc0_scratch0 f0); iexact S0
    isplitl [S1]; · iapply (whole_owned c cc0_scratch1 f1); iexact S1
    iapply (whole_owned c cc0_scratch2 f2); iexact S2
  iexact Hp

/-- What stands beside the buffers at any point is what the region may leave. -/
theorem leaves (c : Dev nD) (n : ℕ) : between m c n ⊢ Pipeline.ΦA spec0 c := by
  unfold Pipeline.ΦA between
  rw [scopedRest0_eq]
  iintro ⟨⟨%Z7, %Z8, %Z9, -, S0, S1, S2⟩, Hp⟩
  isplitr [Hp]
  · isplitl [S0]; · iexists Z7; iapply (owned_whole c cc0_scratch0 Z7); iexact S0
    isplitl [S1]; · iexists Z8; iapply (owned_whole c cc0_scratch1 Z8); iexact S1
    iexists Z9; iapply (owned_whole c cc0_scratch2 Z9); iexact S2
  iexact Hp

/-- Every run of @main ends; the arrays and the other buffers are as the pipeline's account of them says, and every
    counter is zero. -/
theorem run_main : θ_run defs (onTc (τ := τ) (main (F := Ideal))) (s₀ m ρ) fun r =>
    Pipeline.FramePost cfgs (dats m) 0 (V m) r ∧ r.2.sem = fun _ => 0 :=
  Pipeline.θ_run_frame_track cfgs (dats m) 0 launch0 defs₀ 𝒱₀ m ρ main
    (hbody := obligation m) (hshare := fun c => (dats m 0 c).share_full fun _ => rfl) (howed := fun _ _ => rfl)
    (V := V m) (hmain := hmain m 𝒱₀) (hA := fun _ _ => rfl)
    (hin := enters m) (hout := fun c => leaves m c _)
    (Q' := fun r => Pipeline.FramePost cfgs (dats m) 0 (V m) r ∧ r.2.sem = fun _ => 0)
    (hQ' := fun _ h => h)

end Cert.KernelIdeal.Hand

end
-- ==== Proof.KernelIdeal.Quiet.lean ====
/-
  What every run of the kernel over the reals ends with: the output array holds every node's embedding, the twenty-two
  arguments hold what they held, and every counter is zero.
-/
module

public import proofs.«01_k».proof.Defs
public import proofs.«01_k».proof.Proof.KernelIdeal.Run
public import Idealize.ShloMosaic.Lib.Pipeline.Value
public import Idealize.ShloMosaic.Lib.Claim

@[expose] public section

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- What a point writes back is the array's rows of that point. -/
theorem flushed_rows (c : Dev nD) (t : Fin cfg0.N) :
    (dats m 0 c).flushed 5 t = ((cfg0.win 5).blk t).view.read (Elt Ideal) (result m c) := by
  show win0_5.cut (grid0.coords t) (win0_5.fill (grid0.coords t) (fun _ => pad) fun y => result m c ((win0_5.rect t).emb y))
    = fun y => result m c ((win0_5.rect t).emb y)
  exact win0_5.cut_fill (grid0.coords t) (fun _ => pad) _

/-- Every entry of the output array lies in the block of some point. -/
theorem rows_covered (i : S50000x256.Idx) : ∃ t : Fin cfg0.N, i ∈ ((cfg0.win 5).blk t).view.set := by
  have h0 : (i 0).val < 50000 := (i 0).isLt
  have h1 : (i 1).val < 256 := (i 1).isLt
  have ht : (i 0).val / 10112 < grid0.N := by
    rw [show grid0.N = 5 from by decide +kernel]; omega
  refine ⟨⟨(i 0).val / 10112, ht⟩, ?_⟩
  show i ∈ ((View.whole main_v4).slice (win0_5.rect ⟨(i 0).val / 10112, ht⟩)).set
  rw [View.set_slice_whole, Rect.mem_set_unit]
  intro a
  rw [off_5, ext_5]
  match a with
  | ⟨0, _⟩ =>
    show 10112 * ((i 0).val / 10112) ≤ (i 0).val ∧ (i 0).val < 10112 * ((i 0).val / 10112) + min 10112 (50000 - 10112 * ((i 0).val / 10112))
    omega
  | ⟨1, _⟩ => exact ⟨Nat.zero_le _, lt_of_lt_of_eq h1 (Nat.zero_add _).symm⟩

/-- After all the points the output array holds every node's embedding. -/
theorem array_final (c : Dev nD) : (dats m 0 c).arrAt 5 cfg0.N = result m c :=
  (dats m 0 c).arrAt_eq_of_cover 5 (result m c) (fun t _ => flushed_rows m c t) fun i =>
    (rows_covered i).imp fun t h => ⟨flush0_5 t, h⟩

/-- Every run of the kernel ends with the embeddings in the output array. -/
theorem run_value : θ_run defs (onTc (τ := τ) (main (F := Ideal))) (s₀ m ρ) fun r => ∀ c : Dev nD,
    r.2.mem ((c.tc : Thread nD τ).loc main_v4) = result m c :=
  (θ_run defs _ _).mono (fun _ h c => ((h.1 c).1 5).trans (array_final m c)) (run_main m ρ)

/-- Every run of the kernel ends with its arguments as they were and every counter at zero. -/
theorem quiescent : Cert.quiescent_KernelIdeal := fun m ρ _ =>
  θ_run_and (frame_of m ρ (dats m) (fun _ _ => rfl) ((θ_run defs _ _).mono (fun _ h => h.1) (run_main m ρ))) ((θ_run defs _ _).mono (fun _ h => h.2) (run_main m ρ))

end Cert.KernelIdeal.Hand

end
-- ==== Proof.ReferenceIdeal.Entry.lean ====
/-
  What the reference computes, over the reals, entry by entry: node `g`'s 192 latent features against column `j` of `W`,
  and the bias; and which argument each of the latent features is.
-/
module

public import proofs.«01_k».proof.Proof.Gen.ReferenceIdeal
public import Idealize.ShloMosaic.Lib.Pipeline.Value
public import Idealize.ShloMosaic.Lib.Pointwise.Contract
public import Idealize.ShloMosaic.Lib.ValueLayout
public import Idealize.ShloMosaic.Lib.ValueIdx
public import Idealize.ShloMosaic.PureOps.Ideal.Laws

@[expose] public section

noncomputable section

namespace Cert.ReferenceIdeal.Hand

open Cert.ReferenceIdeal Cert.ReferenceIdeal.Gen
open Idealize.ShloMosaic hiding ix1 ix2 ix3 ix4 ix5
open Idealize.ShloMosaic.ValueIdx

/-- The latent features of every node: the features of both time steps side by side, the attributes, the trainable features. -/
def latent (x : S1x2x1x50000x90.Idx → Elt Ideal .f32) (a : S50000x4.Idx → Elt Ideal .f32) (t : S50000x8.Idx → Elt Ideal .f32) :
    S50000x192.Idx → Elt Ideal .f32 :=
  concatenate S50000x192 1
    [⟨S50000x180, shapeCast S50000x180 (transpose S1x1x50000x2x90 [0, 2, 3, 1, 4] x transposes_S1x2x1x50000x90_S1x1x50000x2x90_0_2_3_1_4)
        shapeCasts_S1x1x50000x2x90_S50000x180⟩, ⟨S50000x4, a⟩, ⟨S50000x8, t⟩]
    concatenates_S50000x180_S50000x4_S50000x8_S50000x192_d1

/-- The reference's result, from its five arguments. -/
def value (x : S1x2x1x50000x90.Idx → Elt Ideal .f32) (a : S50000x4.Idx → Elt Ideal .f32) (t : S50000x8.Idx → Elt Ideal .f32)
    (W : S192x256.Idx → Elt Ideal .f32) (b : S256.Idx → Elt Ideal .f32) : FVec Ideal S50000x256 .f32 :=
  addf (φ := .f32) (Host.dotGeneral (F := Ideal) (φ₁ := .f32) (φ₂ := .f32) dot_S50000x192_S192x256_S50000x256_1_0_0_1_n_n none (latent x a t) W)
    (broadcastInDim S50000x256 ![0, 1] bcast_S1x256_S50000x256_0_1 (broadcastInDim S1x256 ![1] bcast_S256_S1x256_1 b))

variable (x : S1x2x1x50000x90.Idx → Elt Ideal .f32) (a : S50000x4.Idx → Elt Ideal .f32) (t : S50000x8.Idx → Elt Ideal .f32)

/-- Latent feature 90 s + k is feature `k` of time step `s`. -/
theorem latent_step (g : Fin 50000) (s : Fin 2) (k : Fin 90) (q : Fin 192) (hq : q.val = 90 * s.val + k.val) :
    latent x a t (ix2 g q) = x (ix5 (0 : Fin 1) s (0 : Fin 1) g k) := by
  have hs := s.isLt
  have hk := k.isLt
  refine (concatenate_apply_piece (t := S50000x192) 1 _ _ (ix2 g q) 0 (by simp) S50000x180 _ rfl rfl 0 rfl
    (ix2 g (⟨q.val, by omega⟩ : Fin 180)) (fun b hb => ?_) (Nat.zero_add _)).trans ?_
  · match b with
    | ⟨0, _⟩ => rfl
    | ⟨1, _⟩ => exact absurd rfl hb
  rw [shapeCast_apply _ _ _ (ix5 (0 : Fin 1) (0 : Fin 1) g s k)
    (by
      simp only [Shape.rowMajor_val_two, Shape.rowMajor_val_five]
      show (((0 * 1 + 0) * 50000 + g.val) * 2 + s.val) * 90 + k.val = g.val * 180 + q.val
      omega)]
  refine transpose_apply _ x _ _ _ fun b => ?_
  match b with
  | ⟨0, _⟩ => rfl | ⟨1, _⟩ => rfl | ⟨2, _⟩ => rfl | ⟨3, _⟩ => rfl | ⟨4, _⟩ => rfl

/-- Latent feature 180 + k is attribute `k`. -/
theorem latent_attr (g : Fin 50000) (k : Fin 4) (q : Fin 192) (hq : q.val = 180 + k.val) : latent x a t (ix2 g q) = a (ix2 g k) := by
  refine concatenate_apply_piece (t := S50000x192) 1 _ _ (ix2 g q) 1 (by simp) S50000x4 a rfl rfl 180 rfl (ix2 g k) (fun b hb => ?_) hq.symm
  match b with
  | ⟨0, _⟩ => rfl
  | ⟨1, _⟩ => exact absurd rfl hb

/-- Latent feature 184 + k is trainable feature `k`. -/
theorem latent_train (g : Fin 50000) (k : Fin 8) (q : Fin 192) (hq : q.val = 184 + k.val) : latent x a t (ix2 g q) = t (ix2 g k) := by
  refine concatenate_apply_piece (t := S50000x192) 1 _ _ (ix2 g q) 2 (by simp) S50000x8 t rfl rfl 184 rfl (ix2 g k) (fun b hb => ?_) hq.symm
  match b with
  | ⟨0, _⟩ => rfl
  | ⟨1, _⟩ => exact absurd rfl hb

/-- Entry (g, j) of the reference: the sum over the 192 latent features, and the bias. -/
theorem value_apply (W : S192x256.Idx → Elt Ideal .f32) (b : S256.Idx → Elt Ideal .f32) (g : Fin 50000) (j : Fin 256) :
    value x a t W b (ix2 g j) = (∑ k : Fin 192, latent x a t (ix2 g k) * W (ix2 k j)) + b (ix1 j) := by
  unfold value
  rw [addf_apply]
  congr 1
  · refine (Ideal.matmul_apply₁_of dot_S50000x192_S192x256_S50000x256_1_0_0_1_n_n rfl rfl _ _ (fun _ => 0) _ (fun k => ix2 g k) (fun k => ix2 k j)
      (fun k => funext fun c => ?_) (fun k => funext fun c => ?_)).trans (zero_add _)
    · match c with | ⟨0, _⟩ => rfl | ⟨1, _⟩ => rfl
    · match c with | ⟨0, _⟩ => rfl | ⟨1, _⟩ => rfl
  · rw [broadcastInDim_apply _ _ _ _ (ix2 (0 : Fin 1) j) (fun c => by match c with | ⟨0, _⟩ => rfl | ⟨1, _⟩ => rfl),
      broadcastInDim_apply _ _ _ _ (ix1 j) (fun c => by match c with | ⟨0, _⟩ => rfl)]

end Cert.ReferenceIdeal.Hand

end
-- ==== Proof.ReferenceIdeal.Quiet.lean ====
/-
  What every run of the reference ends with: its value in the result array, the twenty-two arguments as they were, and
  every counter zero (the reference has no counters).
-/
module

public import proofs.«01_k».proof.Defs
public import proofs.«01_k».proof.Proof.Gen.ReferenceIdeal.Run
public import proofs.«01_k».proof.Proof.ReferenceIdeal.Entry
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe
open Idealize.SL.Sem

/-- The reference's value on device `c`, from a memory's arguments. -/
def valueAt (m : (ℓ : Loc nD τ sig) → Buf (Elt Ideal) ℓ) (c : Dev nD) : FVec Ideal S50000x256 .f32 :=
  value (m ((c.tc : Thread nD τ).loc main_arg0)) (m ((c.tc : Thread nD τ).loc main_arg1)) (m ((c.tc : Thread nD τ).loc main_arg2))
    (m ((c.tc : Thread nD τ).loc main_arg6)) (m ((c.tc : Thread nD τ).loc main_arg7))

/-- Every run of the reference ends with its value in the result array. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = valueAt m c :=
  (θ_run defs _ _).mono (fun _ h c => (h c).1) (Value.run m ρ)

/-- Every run of the reference ends with its arguments as they were and every counter at zero. -/
theorem quiescent : Cert.quiescent_ReferenceIdeal := fun m ρ _ =>
  (θ_run defs _ _).mono (fun r h => ⟨fun c => (h c).2, sem_eq_zero_of_no_sems (by decide) r.2⟩) (Value.run m ρ)

end Cert.ReferenceIdeal.Hand

end
-- ==== Proof.KernelIdeal.Entry.lean ====
/-
  The kernel's array entry by entry in terms of the arguments: the region finds the node features with the nodes last,
  the attributes and the trainable features transposed, and the bias as one row.
-/
module

public import proofs.«01_k».proof.Proof.KernelIdeal.Array
public import Idealize.ShloMosaic.Lib.StableHlo.Run
public import Idealize.ShloMosaic.Lib.Pipeline.Value

@[expose] public section

noncomputable section

namespace Cert.KernelIdeal.Hand

open Cert.KernelIdeal Cert.KernelIdeal.Gen
open Idealize.ShloMosaic hiding ix1 ix2 ix3 ix4 ix5
open Idealize.ShloMosaic.ValueIdx Idealize.ShloMosaic.TcCoe

variable (m : (ℓ : Loc nD τ sig) → Buf (Elt Ideal) ℓ) (c : Dev nD)

theorem entry_x : V m c main_v0 = transpose S1x2x90x1x50000 [0, 1, 4, 2, 3] (m ((c.tc : Thread nD τ).loc main_arg0))
    transposes_S1x2x1x50000x90_S1x2x90x1x50000_0_1_4_2_3 := by
  unfold V hostOps0
  after_results <;> rfl
theorem entry_a : V m c main_v1 = transpose S4x50000 [1, 0] (m ((c.tc : Thread nD τ).loc main_arg1)) transposes_S50000x4_S4x50000_1_0 := by
  unfold V hostOps0
  after_results <;> rfl
theorem entry_t : V m c main_v2 = transpose S8x50000 [1, 0] (m ((c.tc : Thread nD τ).loc main_arg2)) transposes_S50000x8_S8x50000_1_0 := by
  unfold V hostOps0
  after_results <;> rfl
theorem entry_b : V m c main_v3 = shapeCast S1x256 (m ((c.tc : Thread nD τ).loc main_arg7)) shapeCasts_S256_S1x256 := by
  unfold V hostOps0
  after_results <;> rfl

/-- Feature `k` of time step `s` of node `g`, in the layout the region finds and in the argument's. -/
theorem feature (s : Fin 2) (k : Fin 90) (g : Fin 50000) :
    V m c main_v0 (ix5 (0 : Fin 1) s k (0 : Fin 1) g) = m ((c.tc : Thread nD τ).loc main_arg0) (ix5 (0 : Fin 1) s (0 : Fin 1) g k) := by
  rw [entry_x]
  refine transpose_apply (s := S1x2x1x50000x90) (t := S1x2x90x1x50000) _ _ _ _ _ fun b => ?_
  match b with
  | ⟨0, _⟩ => rfl | ⟨1, _⟩ => rfl | ⟨2, _⟩ => rfl | ⟨3, _⟩ => rfl | ⟨4, _⟩ => rfl

/-- The array's entry (g, j) in terms of the arguments. -/
theorem result_apply (g : Fin 50000) (j : Fin 256) (x : S1x2x1x50000x90.Idx → Elt Ideal .f32) (a : S50000x4.Idx → Elt Ideal .f32)
    (t : S50000x8.Idx → Elt Ideal .f32) (W : S192x256.Idx → Elt Ideal .f32) (b : S256.Idx → Elt Ideal .f32)
    (hx : m ((c.tc : Thread nD τ).loc main_arg0) = x) (ha : m ((c.tc : Thread nD τ).loc main_arg1) = a)
    (ht : m ((c.tc : Thread nD τ).loc main_arg2) = t) (hW : m ((c.tc : Thread nD τ).loc main_arg6) = W)
    (hb : m ((c.tc : Thread nD τ).loc main_arg7) = b) :
    result m c (ix2 g j)
      = ((((∑ k : Fin 90, x (ix5 (0 : Fin 1) (0 : Fin 2) (0 : Fin 1) g k) * W (ix2 (⟨k.val, by omega⟩ : Fin 192) j))
        + ∑ k : Fin 90, x (ix5 (0 : Fin 1) (1 : Fin 2) (0 : Fin 1) g k) * W (ix2 (⟨90 + k.val, by omega⟩ : Fin 192) j))
        + ∑ k : Fin 4, a (ix2 g k) * W (ix2 (⟨180 + k.val, by omega⟩ : Fin 192) j))
        + ∑ k : Fin 8, t (ix2 g k) * W (ix2 (⟨184 + k.val, by omega⟩ : Fin 192) j)) + b (ix1 j) := by
  show embedding (V m c main_v0) (V m c main_v1) (V m c main_v2) (V m c main_arg6) (V m c main_v3) g j = _
  unfold embedding
  subst hx ha ht hW hb
  refine congrArg₂ (· + ·) (congrArg₂ (· + ·) (congrArg₂ (· + ·) (congrArg₂ (· + ·) ?_ ?_) ?_) ?_) ?_
  · exact Finset.sum_congr rfl fun k _ => congrArg₂ (· * ·) (feature m c 0 k g) (congrFun (V_main_arg6 m c) _)
  · exact Finset.sum_congr rfl fun k _ => congrArg₂ (· * ·) (feature m c 1 k g) (congrFun (V_main_arg6 m c) _)
  · exact Finset.sum_congr rfl fun k _ => congrArg₂ (· * ·) ((congrFun (entry_a m c) _).trans (transpose_ix2_apply ..))
      (congrFun (V_main_arg6 m c) _)
  · exact Finset.sum_congr rfl fun k _ => congrArg₂ (· * ·) ((congrFun (entry_t m c) _).trans (transpose_ix2_apply ..))
      (congrFun (V_main_arg6 m c) _)
  · exact (congrFun (entry_b m c) _).trans (shapeCast_a_1a_apply ..)

end Cert.KernelIdeal.Hand

end
-- ==== Proof.Equation.lean ====
/-
  The equation: the kernel's four sums over 90, 90, 4 and 8 features are the reference's one sum over 192. Only the order
  of additions is changed, which the extended reals allow without any condition.
-/
module

public import proofs.«01_k».proof.Proof.KernelIdeal.Entry
public import proofs.«01_k».proof.Proof.ReferenceIdeal.Quiet

@[expose] public section

noncomputable section

namespace Cert.Hand

open Idealize.ShloMosaic hiding ix1 ix2 ix3 ix4 ix5
open Idealize.ShloMosaic.ValueIdx Idealize.ShloMosaic.TcCoe

/-- A sum over 192 terms, cut after 90, 180 and 184 of them. -/
theorem sum_cut {M : Type} [AddCommMonoid M] (f : Fin 192 → M) :
    ∑ k : Fin 192, f k = (((∑ k : Fin 90, f ⟨k.val, by omega⟩) + ∑ k : Fin 90, f ⟨90 + k.val, by omega⟩)
      + ∑ k : Fin 4, f ⟨180 + k.val, by omega⟩) + ∑ k : Fin 8, f ⟨184 + k.val, by omega⟩ := by
  refine (Fin.sum_univ_add (a := 184) (b := 8) f).trans ?_
  refine congrArg (· + _) ?_
  refine (Fin.sum_univ_add (a := 180) (b := 4) fun k => f (Fin.castAdd 8 k)).trans ?_
  refine congrArg (· + _) ?_
  exact Fin.sum_univ_add (a := 90) (b := 90) fun k => f (Fin.castAdd 8 (Fin.castAdd 4 k))

/-- From memories that agree on the five arguments the results depend on, the kernel's array is the reference's value. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Hand.valueAt m' c = Cert.KernelIdeal.Hand.result m c := by
  funext i
  have hi : i = ix2 (i 0 : Fin 50000) (i 1 : Fin 256) := ValueIdx.eq_ix2 i
  refine (congrArg (Cert.ReferenceIdeal.Hand.valueAt m' c) hi).trans (Eq.trans ?_ (congrArg (Cert.KernelIdeal.Hand.result m c) hi).symm)
  refine (Cert.ReferenceIdeal.Hand.value_apply _ _ _ _ _ (i 0) (i 1)).trans (Eq.trans ?_
    (Cert.KernelIdeal.Hand.result_apply m c (i 0) (i 1) _ _ _ _ _ h0.symm h1.symm h2.symm h6.symm h7.symm).symm)
  rw [sum_cut]
  refine congrArg (· + _) (congrArg₂ (· + ·) (congrArg₂ (· + ·) (congrArg₂ (· + ·) ?_ ?_) ?_) ?_) <;>
    refine Finset.sum_congr rfl fun k _ => congrArg (· * _) ?_
  · exact Cert.ReferenceIdeal.Hand.latent_step _ _ _ _ 0 k _ (by show k.val = 90 * 0 + k.val; omega)
  · exact Cert.ReferenceIdeal.Hand.latent_step _ _ _ _ 1 k _ rfl
  · exact Cert.ReferenceIdeal.Hand.latent_attr _ _ _ _ k _ rfl
  · exact Cert.ReferenceIdeal.Hand.latent_train _ _ _ _ k _ rfl

end Cert.Hand

end
-- ==== Proof.lean ====
/-
  The assembly: the three frames, and the equation between the kernel's results and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Quiet
public import proofs.«01_k».proof.Proof.KernelIdeal.Quiet
public import proofs.«01_k».proof.Proof.ReferenceIdeal.Quiet
public import proofs.«01_k».proof.Proof.Equation
public import Idealize.ShloMosaic.Lib.Claim

@[expose] public section

noncomputable section

namespace Cert.Proof

open Idealize.ShloMosaic Idealize.ShloMosaic.TcCoe Idealize.SL.Sem

/-- From equal arguments the kernel and the reference end with equal results, as extended reals, and with their arguments
    unchanged. -/
theorem algebraic : Cert.algebraic_KernelIdeal_ReferenceIdeal := fun m g m' g' hpre hm => by
  refine ⟨Cert.KernelIdeal.Hand.result m, ?_, ?_⟩
  · exact (θ_run Cert.KernelIdeal.defs _ _).mono (fun _ h c => ⟨h.1 c, h.2.1 c⟩)
      (θ_run_and (Cert.KernelIdeal.Hand.run_value m g) (Cert.KernelIdeal.Hand.quiescent m g hpre))
  · refine (θ_run Cert.ReferenceIdeal.defs _ _).mono (fun _ h c => ⟨((h.1 c).trans ?_), (h.2 c).2⟩)
      (θ_run_and (Cert.ReferenceIdeal.Hand.run_value m' g') (Cert.ReferenceIdeal.Value.run m' g'))
    obtain ⟨h0, h1, h2, -, -, -, h6, h7, -⟩ := hm c
    exact Cert.Hand.equal m m' c h0 h1 h2 h6 h7

/-- Everything the certificate claims. -/
theorem claim : Cert.Claim := ⟨Cert.Kernel.Gen.facts, Cert.KernelIdeal.Gen.facts, Cert.ReferenceIdeal.Gen.facts,
  Cert.Kernel.Hand.quiescent, Cert.KernelIdeal.Hand.quiescent, Cert.ReferenceIdeal.Hand.quiescent, trivial, algebraic⟩

end Cert.Proof

end
